-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 128]⟩ ⟨2, ![128, 256]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![128, 256]⟩ ⟨2, ![256, 512]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 256]⟩ ⟨2, ![256, 512]⟩ (Layout.meshBlock [2, 2] ![[1], [0]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 256]⟩ ⟨2, ![256, 512]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![256, 128]⟩ ⟨2, ![512, 256]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![256, 128]⟩ ⟨2, ![512, 256]⟩ (Layout.meshBlock [2, 2] ![[0], [1]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![256, 128]⟩ ⟨2, ![512, 256]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 128]⟩ ⟨2, ![128, 256]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S3x2x64x256 : Shape := ⟨4, ![3, 2, 64, 256]⟩
abbrev S3x2x64x128 : Shape := ⟨4, ![3, 2, 64, 128]⟩
abbrev S12 : Shape := ⟨1, ![12]⟩
abbrev S_ : Shape := ⟨0, ![]⟩
abbrev S64x128 : Shape := ⟨2, ![64, 128]⟩
abbrev S64x256 : Shape := ⟨2, ![64, 256]⟩
abbrev S1x1x64x256 : Shape := ⟨4, ![1, 1, 64, 256]⟩
abbrev S1 : Shape := ⟨1, ![1]⟩
abbrev S1x1x64x128 : Shape := ⟨4, ![1, 1, 64, 128]⟩

abbrev nBuf : Space → Nat
  | .hbm => 8
  | .vmem => 12
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .bf16⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .bf16⟩
  | .local _ .vmem, ⟨8, _⟩ => ⟨S3x2x64x256, .bf16⟩
  | .local _ .vmem, ⟨9, _⟩ => ⟨S3x2x64x256, .bf16⟩
  | .local _ .vmem, ⟨10, _⟩ => ⟨S3x2x64x128, .bf16⟩
  | .local _ .vmem, ⟨11, _⟩ => ⟨S3x2x64x128, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v26 : BitVec 32 := Scalar.muli v2 c2_i32_25
  let v27 : BitVec 32 := Scalar.addi c0_i32_26 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v28 : BitVec 32 := Scalar.muli v6 c1_i32_27
  let v29 : BitVec 32 := Scalar.addi v27 v28
  v29.toNat
def k0_dev4 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v47 : BitVec 32 := Scalar.muli v2 c2_i32_45
  let v48 : BitVec 32 := Scalar.addi c0_i32_46 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v49 : BitVec 32 := Scalar.muli v6 c1_i32_47
  let v50 : BitVec 32 := Scalar.addi v48 v49
  v50.toNat
def k0_dev5 (d0 : Dev nD) : Nat :=
  let c0_i32_84 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_83 : BitVec 32 := 2#32
  let v81 : BitVec 32 := Scalar.muli v7 c2_i32_83
  let v82 : BitVec 32 := Scalar.addi c0_i32_84 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v83 : BitVec 32 := Scalar.muli v5 c1_i32_85
  let v84 : BitVec 32 := Scalar.addi v82 v83
  v84.toNat
def k0_dev6 (d0 : Dev nD) : Nat :=
  let c0_i32_121 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_120 : BitVec 32 := 2#32
  let v115 : BitVec 32 := Scalar.muli v7 c2_i32_120
  let v116 : BitVec 32 := Scalar.addi c0_i32_121 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v117 : BitVec 32 := Scalar.muli v5 c1_i32_122
  let v118 : BitVec 32 := Scalar.addi v116 v117
  v118.toNat
def k0_dev7 (d0 : Dev nD) : Nat :=
  let c0_i32_157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_156 : BitVec 32 := 2#32
  let v147 : BitVec 32 := Scalar.muli v2 c2_i32_156
  let v148 : BitVec 32 := Scalar.addi c0_i32_157 v147
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_158 : BitVec 32 := 1#32
  let v149 : BitVec 32 := Scalar.muli v6 c1_i32_158
  let v150 : BitVec 32 := Scalar.addi v148 v149
  v150.toNat
def k0_dev8 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v179 : BitVec 32 := Scalar.muli v2 c2_i32_192
  let v180 : BitVec 32 := Scalar.addi c0_i32_193 v179
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_194 : BitVec 32 := 1#32
  let v181 : BitVec 32 := Scalar.muli v6 c1_i32_194
  let v182 : BitVec 32 := Scalar.addi v180 v181
  v182.toNat
def k0_dev9 (d0 : Dev nD) : Nat :=
  let c0_i32_230 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_229 : BitVec 32 := 2#32
  let v213 : BitVec 32 := Scalar.muli v7 c2_i32_229
  let v214 : BitVec 32 := Scalar.addi c0_i32_230 v213
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_231 : BitVec 32 := 1#32
  let v215 : BitVec 32 := Scalar.muli v5 c1_i32_231
  let v216 : BitVec 32 := Scalar.addi v214 v215
  v216.toNat
def k0_dev10 (d0 : Dev nD) : Nat :=
  let c0_i32_267 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_266 : BitVec 32 := 2#32
  let v247 : BitVec 32 := Scalar.muli v7 c2_i32_266
  let v248 : BitVec 32 := Scalar.addi c0_i32_267 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_268 : BitVec 32 := 1#32
  let v249 : BitVec 32 := Scalar.muli v5 c1_i32_268
  let v250 : BitVec 32 := Scalar.addi v248 v249
  v250.toNat
def k0_dev11 (d0 : Dev nD) : Nat :=
  let c0_i32_302 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_301 : BitVec 32 := 2#32
  let v279 : BitVec 32 := Scalar.muli v2 c2_i32_301
  let v280 : BitVec 32 := Scalar.addi c0_i32_302 v279
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_303 : BitVec 32 := 1#32
  let v281 : BitVec 32 := Scalar.muli v6 c1_i32_303
  let v282 : BitVec 32 := Scalar.addi v280 v281
  v282.toNat
def k0_dev12 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v311 : BitVec 32 := Scalar.muli v2 c2_i32_337
  let v312 : BitVec 32 := Scalar.addi c0_i32_338 v311
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_339 : BitVec 32 := 1#32
  let v313 : BitVec 32 := Scalar.muli v6 c1_i32_339
  let v314 : BitVec 32 := Scalar.addi v312 v313
  v314.toNat
def k0_dev13 (d0 : Dev nD) : Nat :=
  let c0_i32_375 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_374 : BitVec 32 := 2#32
  let v345 : BitVec 32 := Scalar.muli v7 c2_i32_374
  let v346 : BitVec 32 := Scalar.addi c0_i32_375 v345
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_376 : BitVec 32 := 1#32
  let v347 : BitVec 32 := Scalar.muli v5 c1_i32_376
  let v348 : BitVec 32 := Scalar.addi v346 v347
  v348.toNat
def k0_dev14 (d0 : Dev nD) : Nat :=
  let c0_i32_412 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_411 : BitVec 32 := 2#32
  let v379 : BitVec 32 := Scalar.muli v7 c2_i32_411
  let v380 : BitVec 32 := Scalar.addi c0_i32_412 v379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_413 : BitVec 32 := 1#32
  let v381 : BitVec 32 := Scalar.muli v5 c1_i32_413
  let v382 : BitVec 32 := Scalar.addi v380 v381
  v382.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S128x256 : Shape := ⟨2, ![128, 256]⟩
abbrev S256x512 : Shape := ⟨2, ![256, 512]⟩
abbrev S512x256 : Shape := ⟨2, ![512, 256]⟩
abbrev S128x512 : Shape := ⟨2, ![128, 512]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S128x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S128x512, .f32⟩
  | .hbm, ⟨8, _⟩ => ⟨S128x512, .bf16⟩
  | .hbm, ⟨9, _⟩ => ⟨S_, .bf16⟩
  | .hbm, ⟨10, _⟩ => ⟨S128x512, .bf16⟩
  | .hbm, ⟨11, _⟩ => ⟨S128x512, .bf16⟩
  | .hbm, ⟨12, _⟩ => ⟨S128x256, .f32⟩
  | .hbm, ⟨13, _⟩ => ⟨S128x256, .bf16⟩
  | .hbm, ⟨14, _⟩ => ⟨S128x512, .f32⟩
  | .hbm, ⟨15, _⟩ => ⟨S128x512, .bf16⟩
  | .hbm, ⟨16, _⟩ => ⟨S_, .bf16⟩
  | .hbm, ⟨17, _⟩ => ⟨S128x512, .bf16⟩
  | .hbm, ⟨18, _⟩ => ⟨S128x512, .bf16⟩
  | .hbm, ⟨19, _⟩ => ⟨S128x256, .f32⟩
  | .hbm, ⟨20, _⟩ => ⟨S128x256, .bf16⟩
  | .hbm, ⟨21, _⟩ => ⟨S128x512, .f32⟩
  | .hbm, ⟨22, _⟩ => ⟨S128x512, .bf16⟩
  | .hbm, ⟨23, _⟩ => ⟨S_, .bf16⟩
  | .hbm, ⟨24, _⟩ => ⟨S128x512, .bf16⟩
  | .hbm, ⟨25, _⟩ => ⟨S128x512, .bf16⟩
  | .hbm, ⟨26, _⟩ => ⟨S128x256, .f32⟩
  | .hbm, ⟨27, _⟩ => ⟨S128x256, .bf16⟩
  | _, _ => ⟨S128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Schedule.lean ====
/-
# The exchange protocol: peers, slots, cells, payloads, levels

Four devices in a two by two mesh. Twelve exchanges run between a device and one of its two peers: for each of
the three layers and each half of the rows, one exchange of the hidden block with the `y` peer (through the slots
of the wide scratch buffers) and one of the output block with the `x` peer (through the slots of the narrow
ones). At entry both peers signal the barrier semaphore; the signal hands over the landing slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peers -/

set_option backward.proofsInPublic true in
/-- The device with the other `y` coordinate, and the one with the other `x` coordinate. -/
def yP (c : Dev nD) : Dev nD := ⟨2 * (c.val / 2) + (1 - c.val % 2), by have := c.isLt; show _ < 4; change c.val < 4 at this; omega⟩
set_option backward.proofsInPublic true in
def xP (c : Dev nD) : Dev nD := ⟨2 * (1 - c.val / 2) + c.val % 2, by have := c.isLt; show _ < 4; change c.val < 4 at this; omega⟩

theorem yP_yP (c : Dev nD) : yP (yP c) = c := by revert c; decide
theorem xP_xP (c : Dev nD) : xP (xP c) = c := by revert c; decide
theorem yP_ne_xP (c : Dev nD) : yP c ≠ xP c := by revert c; decide

/-- An exchange: which peer (`true` the `y` one), which layer, which half of the rows. -/
abbrev Exch : Type := Bool × Fin 3 × Fin 2

def peer (e : Exch) (c : Dev nD) : Dev nD := if e.1 then yP c else xP c
theorem peer_peer (e : Exch) (c : Dev nD) : peer e (peer e c) = c := by
  unfold peer; split
  · exact yP_yP c
  · exact xP_xP c
def around (e : Exch) : Dev nD ≃ Dev nD := ⟨peer e, peer e, peer_peer e, peer_peer e⟩

/-! ## The slots -/

theorem inbH (l : Fin 3) (h : Fin 2) : ∀ a, (![l.val, h.val, 0, 0] : Fin 4 → Nat) a + S1x1x64x256.size a ≤ S3x2x64x256.size a := by
  revert l h; decide
theorem inbX (l : Fin 3) (h : Fin 2) : ∀ a, (![l.val, h.val, 0, 0] : Fin 4 → Nat) a + S1x1x64x128.size a ≤ S3x2x64x128.size a := by
  revert l h; decide

/-- The wide and the narrow slot of layer `l`, half `h`. -/
abbrev rH (l : Fin 3) (h : Fin 2) : Rect S3x2x64x256 := Rect.unit (s := S3x2x64x256) ![l.val, h.val, 0, 0] S1x1x64x256.size (inbH l h)
abbrev rX (l : Fin 3) (h : Fin 2) : Rect S3x2x64x128 := Rect.unit (s := S3x2x64x128) ![l.val, h.val, 0, 0] S1x1x64x128.size (inbX l h)

/-- The scratch buffers: hidden blocks sent and received, output blocks sent and received. -/
abbrev shM : Memref sig .tc .vmem S3x2x64x256 .bf16 := Memref.whole cc0_scratch0
abbrev rhM : Memref sig .tc .vmem S3x2x64x256 .bf16 := Memref.whole cc0_scratch1
abbrev sxM : Memref sig .tc .vmem S3x2x64x128 .bf16 := Memref.whole cc0_scratch2
abbrev rxM : Memref sig .tc .vmem S3x2x64x128 .bf16 := Memref.whole cc0_scratch3

/-- A slot as the transfers address it, its two leading axes dropped. -/
abbrev vH (M : Memref sig .tc .vmem S3x2x64x256 .bf16) (l : Fin 3) (h : Fin 2) : Memref sig .tc .vmem S64x256 .bf16 :=
  (M.slice (rH l h) (fun _ => rfl)).squeeze S64x256 squeezes_S1x1x64x256_S64x256
abbrev vX (M : Memref sig .tc .vmem S3x2x64x128 .bf16) (l : Fin 3) (h : Fin 2) : Memref sig .tc .vmem S64x128 .bf16 :=
  (M.slice (rX l h) (fun _ => rfl)).squeeze S64x128 squeezes_S1x1x64x128_S64x128

/-- Device `c` holds the elements of `M` under `r`, at some contents; -/
def slotAny (c : Dev nD) {s : Shape} (M : Memref sig .tc .vmem s .bf16) (r : Rect s) : sProp 𝕄 :=
  iprop(∃ f : Buf (Elt F) (M.view.loc (c : Thread nD τ)), M.view.loc (c : Thread nD τ) ↦[(M.view.slice r).set]{fullShare} f)
/-- and at contents that read as `v`. -/
def slotHas (c : Dev nD) {s : Shape} (M : Memref sig .tc .vmem s .bf16) (r : Rect s) (v : r.shape.Idx → Elt F .bf16) : sProp 𝕄 :=
  iprop(∃ f : Buf (Elt F) (M.view.loc (c : Thread nD τ)), ⌜M.view.readAt (Elt F) r.toLoadRect f = v⌝
    ∗ (M.view.loc (c : Thread nD τ) ↦[(M.view.slice r).set]{fullShare} f))

omit [FloatOps F] in
instance slotAny_storable (c : Dev nD) {s : Shape} (M : Memref sig .tc .vmem s .bf16) (r : Rect s) :
    BI.Storable (upEmb : UEmb _ 𝕄) (slotAny (F := F) c M r) := by unfold slotAny; infer_instance
omit [FloatOps F] in
instance slotHas_storable (c : Dev nD) {s : Shape} (M : Memref sig .tc .vmem s .bf16) (r : Rect s) (v : r.shape.Idx → Elt F .bf16) :
    BI.Storable (upEmb : UEmb _ 𝕄) (slotHas (F := F) c M r v) := by unfold slotHas; infer_instance

omit [FloatOps F] in
theorem slotHas_any (c : Dev nD) {s : Shape} (M : Memref sig .tc .vmem s .bf16) (r : Rect s) (v : r.shape.Idx → Elt F .bf16) :
    slotHas (F := F) c M r v ⊢ slotAny c M r := by
  unfold slotHas slotAny; iintro ⟨%f, -, H⟩; iexists f; iexact H

/-! ## The semaphores and cells -/

abbrev barS : Sem sig := (SemArray.scalar (sig.barrier 0 rfl) : Sems sig S_).sem

/-- The place of an exchange's semaphore in the two arrays. -/
def semIx (e : Exch) : ℕ := 4 * e.2.1.val + (if e.1 then 0 else 2) + e.2.2.val
theorem inbS (e : Exch) : ∀ a, (![semIx e] : Fin 1 → Nat) a + S1.size a ≤ S12.size a := by revert e; decide

abbrev sendSem (e : Exch) : DmaSem sig :=
  (((cc0_scratch4 : DmaSems sig S12).slice (Rect.unit (s := S12) ![semIx e] S1.size (inbS e))).squeeze S_ squeezes_S1_S_).sem
abbrev recvSem (e : Exch) : DmaSem sig :=
  (((cc0_scratch5 : DmaSems sig S12).slice (Rect.unit (s := S12) ![semIx e] S1.size (inbS e))).squeeze S_ squeezes_S1_S_).sem

theorem sendSem_val (e : Exch) : (sendSem e).val = 8 + semIx e := by revert e; decide
theorem recvSem_val (e : Exch) : (recvSem e).val = 20 + semIx e := by revert e; decide

/-- The cells of one device: its barrier, and per exchange the one counting its sending (`false`) and the one
    counting the arrival (`true`). -/
abbrev Key : Type := Option (Bool × Exch)
def csem : Key → SemLoc sig
  | none => .reg barS
  | some (false, e) => .dma (sendSem e)
  | some (true, e) => .dma (recvSem e)
abbrev kcell (ck : Dev nD × Key) : GSem nD τ sig := ((ck.1 : Thread nD τ), csem ck.2)
abbrev barCell (c : Dev nD) : GSem nD τ sig := ((c : Thread nD τ), .reg barS)
abbrev sendCell (e : Exch) (c : Dev nD) : GSem nD τ sig := ((c : Thread nD τ), .dma (sendSem e))
abbrev recvCell (e : Exch) (c : Dev nD) : GSem nD τ sig := ((c : Thread nD τ), .dma (recvSem e))

/-- Which cell a semaphore is. -/
def decode : SemLoc sig → Option Key
  | .reg s => if s = barS then some none else none
  | .dma q => if q.val < 8 then none else
      some (some (decide (20 ≤ q.val), decide ((q.val - 8) % 12 / 2 % 2 = 0), ⟨(q.val - 8) % 12 / 4, by omega⟩, ⟨(q.val - 8) % 12 % 2, by omega⟩))

theorem decode_send (e : Exch) : decode (.dma (sendSem e)) = some (some (false, e)) := by revert e; decide
theorem decode_recv (e : Exch) : decode (.dma (recvSem e)) = some (some (true, e)) := by revert e; decide
theorem decode_bar : decode (.reg barS) = some none := by decide
theorem decode_csem : (k : Key) → decode (csem k) = some k
  | none => decode_bar
  | some (false, e) => decode_send e
  | some (true, e) => decode_recv e
theorem csem_inj : Function.Injective csem := fun a b h => by
  have := congrArg decode h; rw [decode_csem, decode_csem] at this; exact Option.some.inj this

/-- What one transfer adds to its semaphores. -/
def amt (e : Exch) : ℕ := if e.1 then (vH rhM 0 0).view.dmaCredit else (vX rxM 0 0).view.dmaCredit
theorem amt_pos (e : Exch) : 0 < amt e := by
  unfold amt; split
  · exact View.dmaCredit_pos _ (by decide)
  · exact View.dmaCredit_pos _ (by decide)

/-! ## The schedule -/

section Sched

/-- The blocks sent: the hidden block and the output block of layer `l`, half `h`, on device `c`. -/
structure Blocks (F : FTy → Type) where
  hid : Fin 3 → Fin 2 → Dev nD → FVec F S1x1x64x256 .bf16
  out : Fin 3 → Fin 2 → Dev nD → FVec F S1x1x64x128 .bf16

variable (B : Blocks F)

/-- The sending slot of an exchange, at some contents; -/
def srcAny (e : Exch) (c : Dev nD) : sProp 𝕄 :=
  match e with
  | (true, l, h) => slotAny c shM (rH l h)
  | (false, l, h) => slotAny c sxM (rX l h)
/-- the same holding the block to send; -/
def srcHas (e : Exch) (c : Dev nD) : sProp 𝕄 :=
  match e with
  | (true, l, h) => slotHas c shM (rH l h) (B.hid l h c)
  | (false, l, h) => slotHas c sxM (rX l h) (B.out l h c)
/-- the landing slot at some contents; -/
def dstAny (e : Exch) (c : Dev nD) : sProp 𝕄 :=
  match e with
  | (true, l, h) => slotAny c rhM (rH l h)
  | (false, l, h) => slotAny c rxM (rX l h)
/-- the landing slot holding the peer's block. -/
def dstHas (e : Exch) (c : Dev nD) : sProp 𝕄 :=
  match e with
  | (true, l, h) => slotHas c rhM (rH l h) (B.hid l h (yP c))
  | (false, l, h) => slotHas c rxM (rX l h) (B.out l h (xP c))

omit [FloatOps F] in
instance srcAny_storable (e : Exch) (c : Dev nD) : BI.Storable (upEmb : UEmb _ 𝕄) (srcAny (F := F) e c) := by
  rcases e with ⟨_ | _, l, h⟩ <;> unfold srcAny <;> infer_instance
omit [FloatOps F] in
instance dstAny_storable (e : Exch) (c : Dev nD) : BI.Storable (upEmb : UEmb _ 𝕄) (dstAny (F := F) e c) := by
  rcases e with ⟨_ | _, l, h⟩ <;> unfold dstAny <;> infer_instance
omit [FloatOps F] in
instance dstHas_storable (e : Exch) (c : Dev nD) : BI.Storable (upEmb : UEmb _ 𝕄) (dstHas (F := F) B e c) := by
  rcases e with ⟨_ | _, l, h⟩ <;> unfold dstHas <;> infer_instance

/-- The landing slots one peer hands over: all of one kind. -/
def slotsOf (ax : Bool) (c : Dev nD) : sProp 𝕄 := bigSep Finset.univ fun lh : Fin 3 × Fin 2 => dstAny (ax, lh) c
omit [FloatOps F] in
instance slotsOf_storable (ax : Bool) (c : Dev nD) : BI.Storable (upEmb : UEmb _ 𝕄) (slotsOf (F := F) ax c) := by unfold slotsOf; infer_instance

def keyDuties : Option Key → Finset Bool
  | none => ∅
  | some none => Finset.univ
  | some (some _) => {false}
def keyAmount : Option Key → ℕ
  | some (some (_, e)) => amt e
  | _ => 1
/-- A barrier signal from the `y` peer (duty `true`) hands over that peer's wide landing slots, one from the `x` peer
    its narrow ones; an arrival hands over the landing slot with the peer's block; a departure the sending slot. -/
def keyPay : Option Key → Bool → Dev nD → sProp 𝕄
  | none, _, _ => iprop(emp)
  | some none, true, c => slotsOf true (yP c)
  | some none, false, c => slotsOf false (xP c)
  | some (some (false, e)), _, c => srcAny e c
  | some (some (true, e)), _, c => dstHas B e c

omit [FloatOps F] in
instance keyPay_storable (k : Option Key) (d : Bool) (c : Dev nD) : BI.Storable (upEmb : UEmb _ 𝕄) (keyPay (F := F) B k d c) := by
  rcases k with _ | _ | ⟨_ | _, e⟩ <;> rcases d with _ | _ <;> unfold keyPay <;> infer_instance

/-- One round: every cell's duties fall due once. -/
def sched : Rounds.Schedule (GSem nD τ sig) Bool 𝕄 where
  duties g r := if r = 0 ∧ g.1.2 = .tc then keyDuties (decode g.2) else ∅
  unitless _ := False
  amount g _ _ := keyAmount (decode g.2)
  payload g _ d := keyPay B (decode g.2) d g.1.1
  amount_pos g _ _ _ := by
    rcases decode g.2 with _ | _ | ⟨b, e⟩
    · exact Nat.one_pos
    · exact Nat.one_pos
    · exact amt_pos e

instance sched_storable (g : GSem nD τ sig) (r : ℕ) (d : Bool) :
    BI.Storable (upEmb : UEmb _ 𝕄) ((sched (F := F) B).payload g r d) := by
  show BI.Storable upEmb (keyPay B (decode g.2) d g.1.1); infer_instance

variable (c : Dev nD) (e : Exch)

omit [FloatOps F] in
theorem duties_bar : (sched (F := F) B).duties (barCell c) 0 = Finset.univ := by
  show (if 0 = 0 ∧ (barCell c).1.2 = .tc then keyDuties (decode (.reg barS)) else ∅) = _
  rw [if_pos ⟨rfl, rfl⟩, decode_bar]; rfl
omit [FloatOps F] in
theorem duties_send : (sched (F := F) B).duties (sendCell e c) 0 = {false} := by
  show (if 0 = 0 ∧ (sendCell e c).1.2 = .tc then keyDuties (decode (.dma (sendSem e))) else ∅) = _
  rw [if_pos ⟨rfl, rfl⟩, decode_send]; rfl
omit [FloatOps F] in
theorem duties_recv : (sched (F := F) B).duties (recvCell e c) 0 = {false} := by
  show (if 0 = 0 ∧ (recvCell e c).1.2 = .tc then keyDuties (decode (.dma (recvSem e))) else ∅) = _
  rw [if_pos ⟨rfl, rfl⟩, decode_recv]; rfl
omit [FloatOps F] in
theorem duties_later (g : GSem nD τ sig) : ∀ r, 1 ≤ r → (sched (F := F) B).duties g r = ∅ :=
  fun r hr => if_neg fun h => by omega

omit [FloatOps F] in
theorem amount_bar (d : Bool) : (sched (F := F) B).amount (barCell c) 0 d = 1 := by
  show keyAmount (decode (.reg barS)) = _; rw [decode_bar]; rfl
omit [FloatOps F] in
theorem amount_send (d : Bool) : (sched (F := F) B).amount (sendCell e c) 0 d = amt e := by
  show keyAmount (decode (.dma (sendSem e))) = _; rw [decode_send]; rfl
omit [FloatOps F] in
theorem amount_recv (d : Bool) : (sched (F := F) B).amount (recvCell e c) 0 d = amt e := by
  show keyAmount (decode (.dma (recvSem e))) = _; rw [decode_recv]; rfl

omit [FloatOps F] in
theorem expect_bar : (sched (F := F) B).expect (barCell c) 0 = 2 := by
  unfold Schedule.expect Schedule.amountOf
  rw [duties_bar, Finset.sum_congr rfl fun d _ => amount_bar B c d, Finset.sum_const, Finset.card_univ, Fintype.card_bool, smul_eq_mul]
omit [FloatOps F] in
theorem expect_send : (sched (F := F) B).expect (sendCell e c) 0 = amt e := by
  unfold Schedule.expect Schedule.amountOf; rw [duties_send, Finset.sum_singleton, amount_send]
omit [FloatOps F] in
theorem expect_recv : (sched (F := F) B).expect (recvCell e c) 0 = amt e := by
  unfold Schedule.expect Schedule.amountOf; rw [duties_recv, Finset.sum_singleton, amount_recv]

omit [FloatOps F] in
theorem payload_bar_true : (sched (F := F) B).payload (barCell c) 0 true = slotsOf true (yP c) := by
  show keyPay B (decode (.reg barS)) true c = _; rw [decode_bar]; rfl
omit [FloatOps F] in
theorem payload_bar_false : (sched (F := F) B).payload (barCell c) 0 false = slotsOf false (xP c) := by
  show keyPay B (decode (.reg barS)) false c = _; rw [decode_bar]; rfl
omit [FloatOps F] in
theorem payload_send (d : Bool) : (sched (F := F) B).payload (sendCell e c) 0 d = srcAny e c := by
  show keyPay B (decode (.dma (sendSem e))) d c = _; rw [decode_send]; rfl
omit [FloatOps F] in
theorem payload_recv (d : Bool) : (sched (F := F) B).payload (recvCell e c) 0 d = dstHas B e c := by
  show keyPay B (decode (.dma (recvSem e))) d c = _; rw [decode_recv]; rfl

omit [FloatOps F] in
theorem rest_bar : bigSep ((sched (F := F) B).duties (barCell c) 0 \ ∅) (fun d => (sched (F := F) B).payload (barCell c) 0 d)
    = iprop(slotsOf false (xP c) ∗ slotsOf true (yP c)) := by
  rw [Finset.sdiff_empty, duties_bar, bigSep_univ_eq_bigSepL [false, true] (by decide) (by decide), bigSepL_cons_cons, bigSepL_singleton,
    payload_bar_false, payload_bar_true]
  rfl
omit [FloatOps F] in
theorem rest_send : bigSep ((sched (F := F) B).duties (sendCell e c) 0 \ ∅) (fun d => (sched (F := F) B).payload (sendCell e c) 0 d) = srcAny e c := by
  rw [Finset.sdiff_empty, duties_send, bigSep_singleton, payload_send]
omit [FloatOps F] in
theorem rest_recv : bigSep ((sched (F := F) B).duties (recvCell e c) 0 \ ∅) (fun d => (sched (F := F) B).payload (recvCell e c) 0 d) = dstHas B e c := by
  rw [Finset.sdiff_empty, duties_recv, bigSep_singleton, payload_recv]

end Sched

/-! ## What a device owes, and the levels -/

/-- What device `c` still owes its peers' arrival cells once it has started the exchanges before number `n`. -/
def due (n : ℕ) (c : Dev nD) : CellTallies nD τ sig Unit :=
  ∑ e ∈ Finset.univ.filter (fun e : Exch => n ≤ semIx e), tallyAt (recvCell e (peer e c)) () (amt e)

theorem semIx_inj : Function.Injective semIx := by decide
theorem due_step (e : Exch) (c : Dev nD) : due (semIx e) c = due (semIx e + 1) c + tallyAt (recvCell e (peer e c)) () (amt e) := by
  unfold due
  have h : Finset.univ.filter (fun e' : Exch => semIx e ≤ semIx e')
      = insert e (Finset.univ.filter (fun e' : Exch => semIx e + 1 ≤ semIx e')) := by
    ext e'
    simp only [Finset.mem_filter, Finset.mem_univ, true_and, Finset.mem_insert]
    constructor
    · intro h
      rcases Nat.lt_or_eq_of_le h with h | h
      · exact .inr h
      · exact .inl (semIx_inj h.symm)
    · rintro (rfl | h)
      · exact le_rfl
      · omega
  rw [h, Finset.sum_insert (by simp), add_comm]
theorem due_end (c : Dev nD) : due 12 c = 0 := by
  unfold due
  rw [Finset.filter_false_of_mem (fun e _ => by revert e; decide), Finset.sum_empty]

/-- At launch a device owes both peers' barrier cells a unit besides. -/
def O₁ (c : Dev nD) : CellTallies nD τ sig Unit := due 0 c + tallyAt (barCell (xP c)) () 1
def O₀ (c : Dev nD) : CellTallies nD τ sig Unit := O₁ c + tallyAt (barCell (yP c)) () 1

def L (g : GSem nD τ sig) : Finset Unit := if g.1.2 = .tc then {()} else ∅
/-- An exchange's level grows with its round. -/
def rnd (e : Exch) : ℕ := 2 * e.2.1.val + (if e.1 then 0 else 1)
def keyLv : Option Key → ℕ
  | some none => 1
  | some (some (true, e)) => 2 + rnd e
  | _ => 0
def lv (g : GSem nD τ sig) (_ : Unit) : ℕ := keyLv (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show keyLv (decode (.reg barS)) = 1; rw [decode_bar]; rfl
theorem lv_recv (e : Exch) (c : Dev nD) : lv (recvCell e c) () = 2 + rnd e := by
  show keyLv (decode (.dma (recvSem e))) = _; rw [decode_recv]; rfl

theorem due_pos {n : ℕ} {c : Dev nD} {g : GSem nD τ sig} {u : Unit} (h : 0 < due n c g u) :
    ∃ e : Exch, n ≤ semIx e ∧ g = recvCell e (peer e c) := by
  unfold due at h
  rw [Finset.sum_apply, Finsupp.finset_sum_apply] at h
  obtain ⟨e, he, hp⟩ := Finset.exists_ne_zero_of_sum_ne_zero (Nat.pos_iff_ne_zero.mp h)
  refine ⟨e, (Finset.mem_filter.mp he).2, ?_⟩
  rw [tallyAt_apply] at hp
  by_contra hn
  rw [if_neg (fun h' => hn h'.1)] at hp
  exact hp rfl

theorem O₀_pos {c : Dev nD} {g : GSem nD τ sig} {u : Unit} (h : 0 < O₀ c g u) :
    (∃ e : Exch, g = recvCell e (peer e c)) ∨ g = barCell (xP c) ∨ g = barCell (yP c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨e, -, hg⟩ := due_pos (by simpa using h)
  exact hn.1 ⟨e, hg⟩

omit [FloatOps F] in
/-- A wait is allowed when everything still owed lies above it. -/
theorem mayWait_due (n : ℕ) (c : Dev nD) (sm : SemLoc sig) (hlv : ∀ e : Exch, n ≤ semIx e → keyLv (decode sm) < 2 + rnd e) :
    (levAts L lv : sProp 𝕄) ⊢ MayWait (c : Thread nD τ) sm () (due n c) :=
  MayOwe.of_cut (L := L) (lev := lv) (keyLv (decode sm)) (fun p hp => by rw [Finset.mem_singleton.mp hp, L_tc]; exact Finset.mem_singleton_self _)
    (fun g u hg => by obtain ⟨e, -, rfl⟩ := due_pos hg; rw [L_tc]; exact Finset.mem_singleton_self _)
    (fun p hp => by rw [Finset.mem_singleton.mp hp]; exact le_rfl)
    (fun g u hg => by
      obtain ⟨e, he, rfl⟩ := due_pos hg
      cases u; rw [lv_recv]; exact hlv e he)

omit [FloatOps F] in
theorem mayWait_stage (c : Dev nD) (q : DmaSem sig) (hq : decode (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | rfl | rfl <;> exact Finset.mem_singleton_self _)
      (fun p hp => by rw [Finset.mem_singleton.mp hp]; show keyLv (decode (.dma q)) ≤ 0; rw [hq]; exact le_rfl)
      (fun g u hg => by
        cases u
        rcases O₀_pos hg with ⟨e, rfl⟩ | rfl | rfl
        · rw [lv_recv]; omega
        · rw [lv_bar]; decide
        · rw [lv_bar]; decide)
  · rw [MayWait_zero]; iintro -; iempintro

end Cert.Mlp

end
-- ==== Proof.Steps.lean ====
/-
# One lemma per kind of step

The kernel's body is built from five kinds of step on the slots: store a block to send, start a transfer, wait for an
arrival, load what arrived, wait for a departure. Each is proved here once, for every exchange.
-/
module

public import proofs.«01_k».proof.Proof.Schedule

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (B : Blocks F) (K : Dev nD × Key → ℕ)

/-- The invariants of all cells of all devices, under the names `K`, and that each has reached its round 0. -/
def records : sProp 𝕄 :=
  iprop((bigSep Finset.univ fun ck : Dev nD × Key => cellInv ER (sched B) (K ck) (kcell ck))
    ∗ bigSep Finset.univ fun ck : Dev nD × Key => reached ER (kcell ck) 0)

instance records_persistent : BI.Persistent (records B K) := by unfold records; infer_instance

omit [FloatOps F] in
theorem records_inv (ck : Dev nD × Key) : records B K ⊢ cellInv ER (sched B) (K ck) (kcell ck) := by
  unfold records; exact sep_elim_left.trans (bigSep_elim (Finset.mem_univ ck))
omit [FloatOps F] in
theorem records_reached (ck : Dev nD × Key) : records B K ⊢ reached ER (kcell ck) 0 := by
  unfold records; exact sep_elim_right.trans (bigSep_elim (Finset.mem_univ ck))

/-- What starting an exchange spends; what waiting for its arrival spends; what a start leaves to wait for. -/
def starting (e : Exch) (c : Dev nD) : sProp 𝕄 :=
  iprop(dutyTok ER (sendCell e c) 0 false ∗ dutyTok ER (recvCell e (peer e c)) 0 false ∗ atPos ER (sendCell e c) 0 ∅ 0)
def arriving (e : Exch) (c : Dev nD) : sProp 𝕄 :=
  iprop(atPos ER (recvCell e c) 0 ∅ 0 ∗ cred (tallyAt (recvCell e c) () (amt e)))
def leaving (e : Exch) (c : Dev nD) : sProp 𝕄 :=
  iprop(atPos ER (sendCell e c) 0 ∅ 0 ∗ cred (tallyAt (sendCell e c) () (amt e)))
/-- The exchanges from number `n` on are still to be started. -/
def owing (n : ℕ) (c : Dev nD) : sProp 𝕄 := iprop(∃ W, owes (c : Thread nD τ) (due n c) W)

variable {α : Type} {Q : α → sProp (MT nD τ sig Unit (Elt F) ℕ UU ℕ)}

/-! ## Loads and stores -/

omit [FloatOps F] in
theorem setOn_le {s : Shape} (M : Memref sig .tc .vmem s .bf16) (r : Rect s) : M.view.setOn r.toLoadRect.set ⊆ (M.view.slice r).set := by
  rw [View.set_slice]; exact Finset.Subset.refl _

theorem wp_load_any (c : Dev nD) {s : Shape} (M : Memref sig .tc .vmem s .bf16) (r : Rect s) {hl : M.view.LoadsAt r.toLoadRect}
    {k : (r.shape.Idx → Elt F .bf16) → Prog (TpuEff nD τ sig (Elt F) Λ₀ .tc) α} :
    slotAny (F := F) c M r
      ⊢ iprop((∀ v, slotAny c M r -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  unfold slotAny
  iintro ⟨%f, H⟩ Hk
  iapply (wp_load 𝒱₀ (c : Thread nD τ) none Set.univ (m := M) (r := r.toLoadRect) (S := (M.view.slice r).set) (f := f) (setOn_le M r)) $$ H
  iintro H
  ispecialize Hk $$ %(M.view.readAt (Elt F) r.toLoadRect f)
  iapply Hk
  iexists f; iexact H

theorem wp_load_has (c : Dev nD) {s : Shape} (M : Memref sig .tc .vmem s .bf16) (r : Rect s) {hl : M.view.LoadsAt r.toLoadRect}
    {v : r.shape.Idx → Elt F .bf16} {k : (r.shape.Idx → Elt F .bf16) → Prog (TpuEff nD τ sig (Elt F) Λ₀ .tc) α} :
    slotHas (F := F) c M r v
      ⊢ iprop((slotHas c M r v -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  unfold slotHas
  iintro ⟨%f, %hf, H⟩ Hk
  subst hf
  iapply (wp_load 𝒱₀ (c : Thread nD τ) none Set.univ (m := M) (r := r.toLoadRect) (S := (M.view.slice r).set) (f := f) (setOn_le M r)) $$ H
  iintro H
  iapply Hk
  iexists f
  isplitr; · (ipureintro; rfl)
  iexact H

theorem wp_store_slot (c : Dev nD) {s : Shape} (M : Memref sig .tc .vmem s .bf16) (r : Rect s) (w : r.shape.Idx → Elt F .bf16)
    {hx : (M.access r).Stores Finset.univ} {hm : (Finset.univ : Finset r.shape.Idx) = Finset.univ ∨ ∀ a, r.stride a = 1}
    {k : PUnit → Prog (TpuEff nD τ sig (Elt F) Λ₀ .tc) α} :
    slotAny (F := F) c M r
      ⊢ iprop((slotHas c M r w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold slotAny slotHas
  iintro ⟨%f, H⟩ Hk
  iapply (wp_store 𝒱₀ (c : Thread nD τ) none Set.univ (m := M) (r := r) (Mk := Finset.univ) (hx := hx) (hm := hm) (S := (M.view.slice r).set) (f := f) (Finset.Subset.refl _)) $$ H
  iintro H
  iapply Hk
  iexists _
  isplitr
  · ipureintro; exact View.read_write_univ (v := M.view.slice r) f w
  iexact H

/-! ## A transfer's effect on its landing slot -/

omit [FloatOps F] in
/-- After a copy between two slots seen without their unit axes, the landing slot reads as the sending one did. -/
theorem read_copied {s s' : Shape} (A D : Memref sig .tc .vmem s .bf16) (r : Rect s) (hr : ∀ a, r.stride a = 1) (hq : r.shape.Squeezes s')
    (fs : A.view.ty.Contents (Elt F)) (fd : D.view.ty.Contents (Elt F)) :
    D.view.readAt (Elt F) r.toLoadRect (((D.slice r hr).squeeze s' hq).view.write (Elt F) fd
      (((A.slice r hr).squeeze s' hq).view.read (Elt F) fs) Finset.univ) = A.view.readAt (Elt F) r.toLoadRect fs := by
  have h := View.read_write_univ (Val := Elt F) (v := ((D.slice r hr).squeeze s' hq).view) fd (((A.slice r hr).squeeze s' hq).view.read (Elt F) fs)
  funext x
  have hx := congrFun h ((Shape.reshapeEquiv hq.numel_eq).symm x)
  rw [← Equiv.apply_symm_apply (Shape.reshapeEquiv hq.numel_eq) x]
  exact hx

/-! ## Starting a transfer -/

variable (c : Dev nD) (e : Exch)

theorem wp_start (n : Dev nD) (hn : n = peer e c) {s : Shape} (A D : Memref sig .tc .vmem s .bf16)
    {hsc : (D : Memref sig (Dev.tc n : Thread nD τ).2.kind .vmem s .bf16).view.ref.isScScratch = false}
    {hsrc : A.view.WordExact} {hdst : D.view.WordExact}
    {hsem : DmaTarget.Typed .vmem (.dma (recvSem e)) (.remote (Dev.tc n : Thread nD τ) D (.dma (sendSem e)) hsc)}
    {k : PUnit → Prog (TpuEff nD τ sig (Elt F) Λ₀ .tc) α}
    (fs : Buf (Elt F) (A.view.loc (c : Thread nD τ))) (fd : Buf (Elt F) (D.view.loc (peer e c : Thread nD τ)))
    (hN : D.view.dmaCredit = amt e)
    (hA : (A.view.loc (c : Thread nD τ) ↦[A.view.set]{fullShare} fs : sProp 𝕄) ⊢ srcAny e c)
    (hD : (D.view.loc (peer e c : Thread nD τ) ↦[D.view.set]{fullShare} (D.view.write (Elt F) fd (A.view.read (Elt F) fs) Finset.univ) : sProp 𝕄)
      ⊢ dstHas B e (peer e c)) :
    iprop(records B K ∗ starting e c ∗ (A.view.loc (c : Thread nD τ) ↦[A.view.set]{fullShare} fs)
        ∗ (D.view.loc (peer e c : Thread nD τ) ↦[D.view.set]{fullShare} fd) ∗ owing (semIx e) c)
      ⊢ iprop(((leaving e c ∗ owing (semIx e + 1) c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma A (.remote (Dev.tc n : Thread nD τ) D (.dma (sendSem e)) hsc) (.dma (recvSem e)) hsrc hdst hsem) k) Q) := by
  subst hn
  unfold starting leaving owing
  iintro ⟨#HR, ⟨Ht1, Ht2, Hat⟩, HA, HD, ⟨%W, HO⟩⟩ Hk
  ihave #HI1 := (records_inv B K (c, some (false, e))) $$ HR
  ihave #HI2 := (records_inv B K (peer e c, some (true, e))) $$ HR
  ihave #HR1 := (records_reached B K (c, some (false, e))) $$ HR
  ihave #HR2 := (records_reached B K (peer e c, some (true, e))) $$ HR
  iapply (Rounds.wp_send_pointsTo 𝒱₀ ER (sched B) (c : Thread nD τ) none (κ₁ := K (c, some (false, e))) (κ₂ := K (peer e c, some (true, e)))
    (r₁ := 0) (r₂ := 0) (d₁ := false) (d₂ := false) (fs := fs) (fd := fd)
    (by rw [duties_send]; exact Finset.mem_singleton_self _) (by rw [duties_recv]; exact Finset.mem_singleton_self _)
    () () (amt e) (show D.view.amount (.dma (recvSem e)) = amt e from hN) (amount_send B c e false) (amount_recv B (peer e c) e false) (due (semIx e + 1) c) (due_step e c) (W := W)
    (by rw [payload_send]; exact hA) (by rw [payload_recv]; exact hD)) $$ [Ht1 Ht2 HA HD HO]
  · isplitr; · iexact HI1
    isplitr; · iexact HI2
    isplitl [HA]; · iexact HA
    isplitl [HD]; · iexact HD
    isplitl [HO]; · iexact HO
    isplitl [Ht1]; · iexact Ht1
    isplitr; · iexact HR1
    isplitl [Ht2]; · iexact Ht2
    iexact HR2
  iintro ⟨Hc, HO⟩
  iapply Hk
  isplitl [Hat Hc]
  · isplitl [Hat]; · iexact Hat
    iexact Hc
  iexists W; iexact HO

/-! ## Waiting for an arrival, and for a departure -/

theorem wp_arrival (n : ℕ) (hlv : ∀ e' : Exch, n ≤ semIx e' → rnd e < rnd e') {s : Shape} (A D : Memref sig .tc .vmem s .bf16)
    {hsrc : A.view.WordExact} {hdst : D.view.WordExact} (hN : D.view.dmaCredit = amt e)
    {k : PUnit → Prog (TpuEff nD τ sig (Elt F) Λ₀ .tc) α} :
    iprop(records B K ∗ levAts L lv ∗ arriving e c ∗ owing n c)
      ⊢ iprop(((dstHas B e c ∗ semVal (recvCell e c) 0 ∗ owing n c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvSem e) A D hsrc hdst) k) Q) := by
  unfold arriving owing
  iintro ⟨#HR, #Hlev, ⟨Hat, Hc⟩, ⟨%W, HO⟩⟩ Hk
  ihave #HI := (records_inv B K (c, some (true, e))) $$ HR
  iapply (Rounds.wp_wait_rest_token 𝒱₀ ER (sched B) (c : Thread nD τ) none (κ := K (c, some (true, e)))
      (wpE_waitDma2_eq 𝒱₀ (c : Thread nD τ) none Set.univ) (Set.mem_univ _) () (O := due n c) (W := W) (R := 0) (m := 0) (T := ∅)
      (by rw [Nat.zero_add, expect_recv]; exact hN)) $$ [Hc HO Hat]
  · isplitr; · iexact HI
    isplitl [Hc]; · rw [hN]; iexact Hc
    isplitl [HO]; · iexact HO
    isplitr
    · iapply (mayWait_due n c (.dma (recvSem e)) (fun e' he' => by rw [decode_recv]; exact Nat.add_lt_add_left (hlv e' he') 2)); iexact Hlev
    iexact Hat
  iintro ⟨HO, Hat, -, Hpay⟩
  ihave Hp := (Entails.of_eq (rest_recv B c e)) $$ Hpay
  imod (Rounds.cell_close ER (sched B) (Set.mem_univ (K (c, some (true, e)))) (fun h => h) (R := 0 + 1) (duties_later B (recvCell e c))) $$ [Hat] with Hz
  · isplitr; · iexact HI
    iexact Hat
  iapply Hk
  isplitl [Hp]; · iexact Hp
  isplitl [Hz]; · iexact Hz
  iexists _; iexact HO

theorem wp_departure {s : Shape} (A D : Memref sig .tc .vmem s .bf16)
    {hsrc : A.view.WordExact} {hdst : D.view.WordExact} (hN : D.view.dmaCredit = amt e)
    {k : PUnit → Prog (TpuEff nD τ sig (Elt F) Λ₀ .tc) α} :
    iprop(records B K ∗ leaving e c ∗ owing 12 c)
      ⊢ iprop(((srcAny e c ∗ semVal (sendCell e c) 0 ∗ owing 12 c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendSem e) A D hsrc hdst) k) Q) := by
  unfold leaving owing
  iintro ⟨#HR, ⟨Hat, Hc⟩, ⟨%W, HO⟩⟩ Hk
  ihave #HI := (records_inv B K (c, some (false, e))) $$ HR
  iapply (Rounds.wp_wait_rest_token 𝒱₀ ER (sched B) (c : Thread nD τ) none (κ := K (c, some (false, e)))
      (wpE_waitDma2_eq 𝒱₀ (c : Thread nD τ) none Set.univ) (Set.mem_univ _) () (O := due 12 c) (W := W) (R := 0) (m := 0) (T := ∅)
      (by rw [Nat.zero_add, expect_send]; exact hN)) $$ [Hc HO Hat]
  · isplitr; · iexact HI
    isplitl [Hc]; · rw [hN]; iexact Hc
    isplitl [HO]; · iexact HO
    isplitr; · rw [due_end, MayWait_zero]; iempintro
    iexact Hat
  iintro ⟨HO, Hat, -, Hpay⟩
  ihave Hp := (Entails.of_eq (rest_send B c e)) $$ Hpay
  imod (Rounds.cell_close ER (sched B) (Set.mem_univ (K (c, some (false, e)))) (fun h => h) (R := 0 + 1) (duties_later B (sendCell e c))) $$ [Hat] with Hz
  · isplitr; · iexact HI
    iexact Hat
  iapply Hk
  isplitl [Hp]; · iexact Hp
  isplitl [Hz]; · iexact Hz
  iexists _; iexact HO

/-! ## The wide slots, the `y` peer -/

section
variable (l : Fin 3) (h : Fin 2)

omit [FloatOps F] in
theorem pts_vH (M : Memref sig .tc .vmem S3x2x64x256 .bf16) (l : Fin 3) (h : Fin 2) (c : Dev nD) (f : Buf (Elt F) (M.view.loc (c : Thread nD τ))) :
    ((vH M l h).view.loc (c : Thread nD τ) ↦[(vH M l h).view.set]{fullShare} f : sProp 𝕄)
      = (M.view.loc (c : Thread nD τ) ↦[(M.view.slice (rH l h)).set]{fullShare} f) :=
  congrArg (fun I => (M.view.loc (c : Thread nD τ) ↦[I]{fullShare} f : sProp 𝕄)) (View.set_reshape (M.view.slice (rH l h)) _)

omit [FloatOps F] in
theorem copied_y (fs : Buf (Elt F) ((vH shM l h).view.loc (c : Thread nD τ))) (fd : Buf (Elt F) ((vH rhM l h).view.loc (yP c : Thread nD τ)))
    (hf : shM.view.readAt (Elt F) (rH l h).toLoadRect fs = B.hid l h c) :
    ((vH rhM l h).view.loc (yP c : Thread nD τ) ↦[(vH rhM l h).view.set]{fullShare}
        ((vH rhM l h).view.write (Elt F) fd ((vH shM l h).view.read (Elt F) fs) Finset.univ) : sProp 𝕄)
      ⊢ dstHas B (true, l, h) (yP c) := by
  show _ ⊢ slotHas (yP c) rhM (rH l h) (B.hid l h (yP (yP c)))
  unfold slotHas
  iintro H
  iexists ((vH rhM l h).view.write (Elt F) fd ((vH shM l h).view.read (Elt F) fs) Finset.univ)
  isplitr
  · ipureintro
    rw [yP_yP]
    exact (read_copied shM rhM (rH l h) (fun _ => rfl) _ fs fd).trans hf
  ihave H' := (Entails.of_eq (pts_vH rhM l h (yP c) _)) $$ H
  iexact H'

theorem wp_start_y (n : Dev nD) (hn : n = yP c)
    {hsc : (vH rhM l h : Memref sig (Dev.tc n : Thread nD τ).2.kind .vmem _ .bf16).view.ref.isScScratch = false}
    {hsrc : (vH shM l h).view.WordExact} {hdst : (vH rhM l h).view.WordExact}
    {hsem : DmaTarget.Typed .vmem (.dma (recvSem (true, l, h))) (.remote (Dev.tc n : Thread nD τ) (vH rhM l h) (.dma (sendSem (true, l, h))) hsc)}
    {k : PUnit → Prog (TpuEff nD τ sig (Elt F) Λ₀ .tc) α} :
    iprop(records B K ∗ starting (true, l, h) c ∗ srcHas B (true, l, h) c ∗ dstAny (true, l, h) (yP c) ∗ owing (semIx (true, l, h)) c)
      ⊢ iprop(((leaving (true, l, h) c ∗ owing (semIx (true, l, h) + 1) c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vH shM l h) (.remote (Dev.tc n : Thread nD τ) (vH rhM l h) (.dma (sendSem (true, l, h))) hsc)
                (.dma (recvSem (true, l, h))) hsrc hdst hsem) k) Q) := by
  show iprop(_ ∗ _ ∗ slotHas c shM (rH l h) (B.hid l h c) ∗ slotAny (yP c) rhM (rH l h) ∗ _) ⊢ _
  unfold slotHas slotAny
  iintro ⟨HR, Hs, ⟨%fs, %hf, HA⟩, ⟨%fd, HD⟩, HO⟩
  iapply (wp_start B K c (true, l, h) n hn (vH shM l h) (vH rhM l h) fs fd rfl
    (by
      show _ ⊢ slotAny c shM (rH l h)
      unfold slotAny
      iintro H; iexists fs
      ihave H' := (Entails.of_eq (pts_vH shM l h c fs)) $$ H
      iexact H')
    (copied_y B c l h fs fd hf))
  isplitl [HR]; · iexact HR
  isplitl [Hs]; · iexact Hs
  isplitl [HA]
  · ihave H' := (Entails.of_eq (pts_vH shM l h c fs).symm) $$ HA
    iexact H'
  isplitl [HD]
  · ihave H' := (Entails.of_eq (pts_vH rhM l h (yP c) fd).symm) $$ HD
    iexact H'
  iexact HO

theorem wp_arrive_y (n : ℕ) (hlv : ∀ e' : Exch, n ≤ semIx e' → rnd (true, l, h) < rnd e')
    {hsrc : (vH shM l h).view.WordExact} {hdst : (vH rhM l h).view.WordExact}
    {k : PUnit → Prog (TpuEff nD τ sig (Elt F) Λ₀ .tc) α} :
    iprop(records B K ∗ levAts L lv ∗ arriving (true, l, h) c ∗ owing n c)
      ⊢ iprop(((dstHas B (true, l, h) c ∗ semVal (recvCell (true, l, h) c) 0 ∗ owing n c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem (true, l, h)) (vH shM l h) (vH rhM l h) hsrc hdst) k) Q) :=
  wp_arrival B K c (true, l, h) n hlv (vH shM l h) (vH rhM l h) rfl

theorem wp_depart_y {hsrc : (vH rhM l h).view.WordExact} {hdst : (vH shM l h).view.WordExact}
    {k : PUnit → Prog (TpuEff nD τ sig (Elt F) Λ₀ .tc) α} :
    iprop(records B K ∗ leaving (true, l, h) c ∗ owing 12 c)
      ⊢ iprop(((srcAny (true, l, h) c ∗ semVal (sendCell (true, l, h) c) 0 ∗ owing 12 c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem (true, l, h)) (vH rhM l h) (vH shM l h) hsrc hdst) k) Q) :=
  wp_departure B K c (true, l, h) (vH rhM l h) (vH shM l h) rfl

theorem wp_take_y {hl : rhM.view.LoadsAt (rH l h).toLoadRect}
    {k : ((rH l h).shape.Idx → Elt F .bf16) → Prog (TpuEff nD τ sig (Elt F) Λ₀ .tc) α} :
    dstHas B (true, l, h) c
      ⊢ iprop((dstHas B (true, l, h) c -∗ wp frame (wpE (defs₀ (F := F)) 𝒱₀ (c : Thread nD τ) none) Set.univ (k (B.hid l h (yP c))) Q)
          -∗ wp frame (wpE (defs₀ (F := F)) 𝒱₀ (c : Thread nD τ) none) Set.univ (.op (.load rhM (rH l h).toLoadRect hl) k) Q) :=
  wp_load_has c rhM (rH l h)

/-- The slot to send is read (the value is not used) and then holds the block. -/
theorem wp_put_y (w : (rH l h).shape.Idx → Elt F .bf16) (hw : w = B.hid l h c)
    {hl : shM.view.LoadsAt (rH l h).toLoadRect} {hx : (shM.access (rH l h)).Stores Finset.univ}
    {hm : (Finset.univ : Finset (rH l h).shape.Idx) = Finset.univ ∨ ∀ a, (rH l h).stride a = 1}
    {k : PUnit → Prog (TpuEff nD τ sig (Elt F) Λ₀ .tc) α} :
    srcAny (true, l, h) c
      ⊢ iprop((srcHas B (true, l, h) c -∗ wp frame (wpE (defs₀ (F := F)) 𝒱₀ (c : Thread nD τ) none) Set.univ (k ⟨⟩) Q)
          -∗ wp frame (wpE (defs₀ (F := F)) 𝒱₀ (c : Thread nD τ) none) Set.univ
              (.op (.load shM (rH l h).toLoadRect hl) fun _ => .op (.store shM (rH l h) w Finset.univ hx hm) k) Q) := by
  subst hw
  show slotAny c shM (rH l h) ⊢ iprop((slotHas c shM (rH l h) (B.hid l h c) -∗ _) -∗ _)
  iintro H Hk
  iapply (wp_load_any c shM (rH l h)) $$ H
  iintro %v H
  iapply (wp_store_slot c shM (rH l h) (B.hid l h c)) $$ H
  iintro H
  iapply Hk; iexact H

end

/-! ## The narrow slots, the `x` peer -/

section
variable (l : Fin 3) (h : Fin 2)

omit [FloatOps F] in
theorem pts_vX (M : Memref sig .tc .vmem S3x2x64x128 .bf16) (l : Fin 3) (h : Fin 2) (c : Dev nD) (f : Buf (Elt F) (M.view.loc (c : Thread nD τ))) :
    ((vX M l h).view.loc (c : Thread nD τ) ↦[(vX M l h).view.set]{fullShare} f : sProp 𝕄)
      = (M.view.loc (c : Thread nD τ) ↦[(M.view.slice (rX l h)).set]{fullShare} f) :=
  congrArg (fun I => (M.view.loc (c : Thread nD τ) ↦[I]{fullShare} f : sProp 𝕄)) (View.set_reshape (M.view.slice (rX l h)) _)

omit [FloatOps F] in
theorem copied_x (fs : Buf (Elt F) ((vX sxM l h).view.loc (c : Thread nD τ))) (fd : Buf (Elt F) ((vX rxM l h).view.loc (xP c : Thread nD τ)))
    (hf : sxM.view.readAt (Elt F) (rX l h).toLoadRect fs = B.out l h c) :
    ((vX rxM l h).view.loc (xP c : Thread nD τ) ↦[(vX rxM l h).view.set]{fullShare}
        ((vX rxM l h).view.write (Elt F) fd ((vX sxM l h).view.read (Elt F) fs) Finset.univ) : sProp 𝕄)
      ⊢ dstHas B (false, l, h) (xP c) := by
  show _ ⊢ slotHas (xP c) rxM (rX l h) (B.out l h (xP (xP c)))
  unfold slotHas
  iintro H
  iexists ((vX rxM l h).view.write (Elt F) fd ((vX sxM l h).view.read (Elt F) fs) Finset.univ)
  isplitr
  · ipureintro
    rw [xP_xP]
    exact (read_copied sxM rxM (rX l h) (fun _ => rfl) _ fs fd).trans hf
  ihave H' := (Entails.of_eq (pts_vX rxM l h (xP c) _)) $$ H
  iexact H'

theorem wp_start_x (n : Dev nD) (hn : n = xP c)
    {hsc : (vX rxM l h : Memref sig (Dev.tc n : Thread nD τ).2.kind .vmem _ .bf16).view.ref.isScScratch = false}
    {hsrc : (vX sxM l h).view.WordExact} {hdst : (vX rxM l h).view.WordExact}
    {hsem : DmaTarget.Typed .vmem (.dma (recvSem (false, l, h))) (.remote (Dev.tc n : Thread nD τ) (vX rxM l h) (.dma (sendSem (false, l, h))) hsc)}
    {k : PUnit → Prog (TpuEff nD τ sig (Elt F) Λ₀ .tc) α} :
    iprop(records B K ∗ starting (false, l, h) c ∗ srcHas B (false, l, h) c ∗ dstAny (false, l, h) (xP c) ∗ owing (semIx (false, l, h)) c)
      ⊢ iprop(((leaving (false, l, h) c ∗ owing (semIx (false, l, h) + 1) c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vX sxM l h) (.remote (Dev.tc n : Thread nD τ) (vX rxM l h) (.dma (sendSem (false, l, h))) hsc)
                (.dma (recvSem (false, l, h))) hsrc hdst hsem) k) Q) := by
  show iprop(_ ∗ _ ∗ slotHas c sxM (rX l h) (B.out l h c) ∗ slotAny (xP c) rxM (rX l h) ∗ _) ⊢ _
  unfold slotHas slotAny
  iintro ⟨HR, Hs, ⟨%fs, %hf, HA⟩, ⟨%fd, HD⟩, HO⟩
  iapply (wp_start B K c (false, l, h) n hn (vX sxM l h) (vX rxM l h) fs fd rfl
    (by
      show _ ⊢ slotAny c sxM (rX l h)
      unfold slotAny
      iintro H; iexists fs
      ihave H' := (Entails.of_eq (pts_vX sxM l h c fs)) $$ H
      iexact H')
    (copied_x B c l h fs fd hf))
  isplitl [HR]; · iexact HR
  isplitl [Hs]; · iexact Hs
  isplitl [HA]
  · ihave H' := (Entails.of_eq (pts_vX sxM l h c fs).symm) $$ HA
    iexact H'
  isplitl [HD]
  · ihave H' := (Entails.of_eq (pts_vX rxM l h (xP c) fd).symm) $$ HD
    iexact H'
  iexact HO

theorem wp_arrive_x (n : ℕ) (hlv : ∀ e' : Exch, n ≤ semIx e' → rnd (false, l, h) < rnd e')
    {hsrc : (vX sxM l h).view.WordExact} {hdst : (vX rxM l h).view.WordExact}
    {k : PUnit → Prog (TpuEff nD τ sig (Elt F) Λ₀ .tc) α} :
    iprop(records B K ∗ levAts L lv ∗ arriving (false, l, h) c ∗ owing n c)
      ⊢ iprop(((dstHas B (false, l, h) c ∗ semVal (recvCell (false, l, h) c) 0 ∗ owing n c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem (false, l, h)) (vX sxM l h) (vX rxM l h) hsrc hdst) k) Q) :=
  wp_arrival B K c (false, l, h) n hlv (vX sxM l h) (vX rxM l h) rfl

theorem wp_depart_x {hsrc : (vX rxM l h).view.WordExact} {hdst : (vX sxM l h).view.WordExact}
    {k : PUnit → Prog (TpuEff nD τ sig (Elt F) Λ₀ .tc) α} :
    iprop(records B K ∗ leaving (false, l, h) c ∗ owing 12 c)
      ⊢ iprop(((srcAny (false, l, h) c ∗ semVal (sendCell (false, l, h) c) 0 ∗ owing 12 c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem (false, l, h)) (vX rxM l h) (vX sxM l h) hsrc hdst) k) Q) :=
  wp_departure B K c (false, l, h) (vX rxM l h) (vX sxM l h) rfl

theorem wp_take_x {hl : rxM.view.LoadsAt (rX l h).toLoadRect}
    {k : ((rX l h).shape.Idx → Elt F .bf16) → Prog (TpuEff nD τ sig (Elt F) Λ₀ .tc) α} :
    dstHas B (false, l, h) c
      ⊢ iprop((dstHas B (false, l, h) c -∗ wp frame (wpE (defs₀ (F := F)) 𝒱₀ (c : Thread nD τ) none) Set.univ (k (B.out l h (xP c))) Q)
          -∗ wp frame (wpE (defs₀ (F := F)) 𝒱₀ (c : Thread nD τ) none) Set.univ (.op (.load rxM (rX l h).toLoadRect hl) k) Q) :=
  wp_load_has c rxM (rX l h)

/-- The slot to send is read (the value is not used) and then holds the block. -/
theorem wp_put_x (w : (rX l h).shape.Idx → Elt F .bf16) (hw : w = B.out l h c)
    {hl : sxM.view.LoadsAt (rX l h).toLoadRect} {hx : (sxM.access (rX l h)).Stores Finset.univ}
    {hm : (Finset.univ : Finset (rX l h).shape.Idx) = Finset.univ ∨ ∀ a, (rX l h).stride a = 1}
    {k : PUnit → Prog (TpuEff nD τ sig (Elt F) Λ₀ .tc) α} :
    srcAny (false, l, h) c
      ⊢ iprop((srcHas B (false, l, h) c -∗ wp frame (wpE (defs₀ (F := F)) 𝒱₀ (c : Thread nD τ) none) Set.univ (k ⟨⟩) Q)
          -∗ wp frame (wpE (defs₀ (F := F)) 𝒱₀ (c : Thread nD τ) none) Set.univ
              (.op (.load sxM (rX l h).toLoadRect hl) fun _ => .op (.store sxM (rX l h) w Finset.univ hx hm) k) Q) := by
  subst hw
  show slotAny c sxM (rX l h) ⊢ iprop((slotHas c sxM (rX l h) (B.out l h c) -∗ _) -∗ _)
  iintro H Hk
  iapply (wp_load_any c sxM (rX l h)) $$ H
  iintro %v H
  iapply (wp_store_slot c sxM (rX l h) (B.out l h c)) $$ H
  iintro H
  iapply Hk; iexact H

end

end Cert.Mlp

end
-- ==== Proof.Values.lean ====
/-
# The values the kernel computes

Of every layer and every half of the rows: the hidden block a device computes from its own column block of the
activations, and the output block it computes from the sum of its own hidden block and its `y` peer's. The next
layer's hidden block starts from the sum of its own output block and its `x` peer's.
-/
module

public import proofs.«01_k».proof.Proof.Schedule

@[expose] public section

noncomputable section

namespace Cert.Mlp

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ)

/-! ## The operands as staged -/

/-- Device `c`'s block of the activations, of the three input weights and of the three output weights. -/
def xOf (c : Dev nD) : FVec F S128x128 .bf16 := (win0_0.blk (0 : Fin 1)).view.read (Elt F) (m ((c : Thread nD τ).loc main_arg0))
def winOf : Fin 3 → Dev nD → FVec F S128x256 .bf16
  | 0, c => (win0_1.blk (0 : Fin 1)).view.read (Elt F) (m ((c : Thread nD τ).loc main_arg1))
  | 1, c => (win0_3.blk (0 : Fin 1)).view.read (Elt F) (m ((c : Thread nD τ).loc main_arg2))
  | 2, c => (win0_5.blk (0 : Fin 1)).view.read (Elt F) (m ((c : Thread nD τ).loc main_arg3))
def woutOf : Fin 3 → Dev nD → FVec F S256x128 .bf16
  | 0, c => (win0_2.blk (0 : Fin 1)).view.read (Elt F) (m ((c : Thread nD τ).loc main_arg4))
  | 1, c => (win0_4.blk (0 : Fin 1)).view.read (Elt F) (m ((c : Thread nD τ).loc main_arg5))
  | 2, c => (win0_6.blk (0 : Fin 1)).view.read (Elt F) (m ((c : Thread nD τ).loc main_arg6))

/-! ## The halves of the rows -/

theorem inbR (h : Fin 2) : ∀ a, (![64 * h.val, 0] : Fin 2 → Nat) a + S64x128.size a ≤ S128x128.size a := by revert h; decide
/-- The rows of half `h`. -/
abbrev rR (h : Fin 2) : Rect S128x128 := Rect.unit (s := S128x128) ![64 * h.val, 0] S64x128.size (inbR h)

def xHalf (h : Fin 2) (c : Dev nD) : FVec F S64x128 .bf16 :=
  (Memref.whole cc0_stg0_0 : Memref sig .tc .vmem S128x128 .bf16).view.readAt (Elt F) (rR h).toLoadRect (xOf m c)

/-! ## The blocks -/

/-- A block as its slot holds it. -/
abbrev packH (v : FVec F S64x256 .bf16) : FVec F S1x1x64x256 .bf16 := shapeCast S1x1x64x256 v shapeCasts_S64x256_S1x1x64x256
abbrev packX (v : FVec F S64x128 .bf16) : FVec F S1x1x64x128 .bf16 := shapeCast S1x1x64x128 v shapeCasts_S64x128_S1x1x64x128

/-- The output block from a hidden block, the peer's and the weight; the next hidden block likewise. -/
abbrev outStep (mine theirs : FVec F S64x256 .bf16) (w : FVec F S256x128 .bf16) : FVec F S64x128 .bf16 := k0_pay5 mine (packH theirs) w
abbrev hidStep (mine theirs : FVec F S64x128 .bf16) (w : FVec F S128x256 .bf16) : FVec F S64x256 .bf16 := k0_pay11 mine (packX theirs) w

def hid0 (h : Fin 2) (c : Dev nD) : FVec F S64x256 .bf16 := k0_pay1 (xHalf m h c) (winOf m 0 c)
def out0 (h : Fin 2) (c : Dev nD) : FVec F S64x128 .bf16 := outStep (hid0 m h c) (hid0 m h (yP c)) (woutOf m 0 c)
def hid1 (h : Fin 2) (c : Dev nD) : FVec F S64x256 .bf16 := hidStep (out0 m h c) (out0 m h (xP c)) (winOf m 1 c)
def out1 (h : Fin 2) (c : Dev nD) : FVec F S64x128 .bf16 := outStep (hid1 m h c) (hid1 m h (yP c)) (woutOf m 1 c)
def hid2 (h : Fin 2) (c : Dev nD) : FVec F S64x256 .bf16 := hidStep (out1 m h c) (out1 m h (xP c)) (winOf m 2 c)
def out2 (h : Fin 2) (c : Dev nD) : FVec F S64x128 .bf16 := outStep (hid2 m h c) (hid2 m h (yP c)) (woutOf m 2 c)

def hidOf : Fin 3 → Fin 2 → Dev nD → FVec F S64x256 .bf16
  | 0 => hid0 m
  | 1 => hid1 m
  | 2 => hid2 m
def outOf : Fin 3 → Fin 2 → Dev nD → FVec F S64x128 .bf16
  | 0 => out0 m
  | 1 => out1 m
  | 2 => out2 m

def blocks : Blocks F where
  hid l h c := packH (hidOf m l h c)
  out l h c := packX (outOf m l h c)

/-! ## The result -/

/-- Half `h` of the result: the last layer's own output block plus the `x` peer's. -/
def resHalf (h : Fin 2) (c : Dev nD) : FVec F S64x128 .bf16 := k0_pay27 (out2 m h c) (packX (out2 m h (xP c)))

abbrev oM : Memref sig .tc .vmem S128x128 .bf16 := Memref.whole cc0_stg7_0

/-- Contents with the rows of half `h` replaced. -/
def putRows (h : Fin 2) (v : FVec F S64x128 .bf16) (g : (cc0_stg7_0 : Ref sig .tc).ty.Contents (Elt F)) :
    (cc0_stg7_0 : Ref sig .tc).ty.Contents (Elt F) :=
  (oM.access (rR h) : View sig .tc _ _ _).write (Elt F) g v Finset.univ

/-- The result block of device `c`. -/
def resOf (c : Dev nD) : FVec F S128x128 .bf16 := putRows 1 (resHalf m 1 c) (putRows 0 (resHalf m 0 c) (xOf m c))

omit [FloatOps F] in
theorem rows_cover (i : (cc0_stg7_0 : Ref sig .tc).ty.Idx) : ∃ h : Fin 2, i ∈ (oM.access (rR h) : View sig .tc _ _ _).set := by
  have h0 : ((i : S128x128.Idx) 0).val < 128 := ((i : S128x128.Idx) 0).isLt
  have h1 : ((i : S128x128.Idx) 1).val < 128 := ((i : S128x128.Idx) 1).isLt
  refine ⟨⟨((i : S128x128.Idx) 0).val / 64, by omega⟩, ?_⟩
  have e (h : Fin 2) : (oM.access (rR h) : View sig .tc _ _ _).set = (rR h).set := View.set_slice_whole cc0_stg7_0 (rR h)
  rw [e]
  refine Rect.mem_set_unit.mpr fun a => ?_
  fin_cases a
  · show 64 * (((i : S128x128.Idx) 0).val / 64) ≤ ((i : S128x128.Idx) 0).val ∧ ((i : S128x128.Idx) 0).val < 64 * (((i : S128x128.Idx) 0).val / 64) + 64
    omega
  · show 0 ≤ ((i : S128x128.Idx) 1).val ∧ ((i : S128x128.Idx) 1).val < 0 + 128
    omega

omit [FloatOps F] in
/-- Both halves replaced, nothing of the former contents is left. -/
theorem putRows_both (v w : FVec F S64x128 .bf16) (g g' : (cc0_stg7_0 : Ref sig .tc).ty.Contents (Elt F)) :
    putRows 1 w (putRows 0 v g) = putRows 1 w (putRows 0 v g') := by
  funext i
  by_cases h1 : i ∈ (oM.access (rR 1) : View sig .tc _ _ _).set
  · obtain ⟨x, -, rfl⟩ := Finset.mem_map.mp h1
    unfold putRows
    rw [View.write_emb_of_mem _ _ (Finset.mem_univ x), View.write_emb_of_mem _ _ (Finset.mem_univ x)]
  · have h0 : i ∈ (oM.access (rR 0) : View sig .tc _ _ _).set := by
      obtain ⟨h, hh⟩ := rows_cover (i := i)
      fin_cases h
      · exact hh
      · exact absurd hh h1
    obtain ⟨x, -, rfl⟩ := Finset.mem_map.mp h0
    unfold putRows
    rw [View.write_of_not_mem _ _ _ h1, View.write_of_not_mem _ _ _ h1,
      View.write_emb_of_mem _ _ (Finset.mem_univ x), View.write_emb_of_mem _ _ (Finset.mem_univ x)]

end Cert.Mlp

end
-- ==== Proof.Turns.lean ====
/-
# The turns of one device

The body is a sequence of turns. A turn waits for a peer's block, loads it and a weight, stores the block computed
from them into its sending slot and starts the transfer to the other peer. The first turns wait for nothing; the last
ones store the result instead of sending. Each kind of turn is proved here once, for every layer and half.
-/
module

public import proofs.«01_k».proof.Proof.Steps
public import proofs.«01_k».proof.Proof.Values

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F) (K : Dev nD × Key → ℕ)

/-- What every step may consult: the records of the cells, and the levels. -/
def env : sProp 𝕄 := iprop(records B K ∗ levAts L lv)

instance env_persistent : BI.Persistent (env B K) := by unfold env; infer_instance

/-- The states of one exchange on one device: before its start; started, the peer's block not yet here; the peer's
    block here; over. -/
def ready (e : Exch) (c : Dev nD) : sProp 𝕄 :=
  iprop(starting e c ∗ srcAny e c ∗ dstAny e (peer e c) ∗ arriving e c)
def under (e : Exch) (c : Dev nD) : sProp 𝕄 := iprop(leaving e c ∗ arriving e c)
def landed (e : Exch) (c : Dev nD) : sProp 𝕄 := iprop(leaving e c ∗ dstHas B e c ∗ semVal (recvCell e c) 0)
def over (e : Exch) (c : Dev nD) : sProp 𝕄 :=
  iprop(srcAny e c ∗ semVal (sendCell e c) 0 ∗ dstHas B e c ∗ semVal (recvCell e c) 0)

variable {α : Type} {Q : α → sProp (MT nD τ sig Unit (Elt F) ℕ UU ℕ)}
variable (c : Dev nD) (l : Fin 3) (h : Fin 2)

/-- The weights and the rows are loaded whole. -/
abbrev rWin : Rect S128x256 := Rect.unit (s := S128x256) ![0, 0] S128x256.size inb_S128x256_S128x256_0_0
abbrev rWout : Rect S256x128 := Rect.unit (s := S256x128) ![0, 0] S256x128.size inb_S256x128_S256x128_0_0

/-- Device `c` holds all of the buffer of `M`, at contents `f`. -/
abbrev held {s : Shape} (M : Memref sig .tc .vmem s .bf16) (f : Buf (Elt F) (M.view.loc (c : Thread nD τ))) : sProp 𝕄 :=
  M.view.loc (c : Thread nD τ) ↦{fullShare} f

/-! ## Sending a block -/

theorem wp_send_y (i j : ℕ) (hi : i = semIx (true, l, h)) (hj : j = semIx (true, l, h) + 1) (n : Dev nD) (hn : n = yP c) (w : (rH l h).shape.Idx → Elt F .bf16) (hw : w = B.hid l h c)
    {hl : shM.view.LoadsAt (rH l h).toLoadRect} {hx : (shM.access (rH l h)).Stores Finset.univ}
    {hm : (Finset.univ : Finset (rH l h).shape.Idx) = Finset.univ ∨ ∀ a, (rH l h).stride a = 1}
    {hsc : (vH rhM l h : Memref sig (Dev.tc n : Thread nD τ).2.kind .vmem _ .bf16).view.ref.isScScratch = false}
    {hsrc : (vH shM l h).view.WordExact} {hdst : (vH rhM l h).view.WordExact}
    {hsem : DmaTarget.Typed .vmem (.dma (recvSem (true, l, h))) (.remote (Dev.tc n : Thread nD τ) (vH rhM l h) (.dma (sendSem (true, l, h))) hsc)}
    {k : PUnit → Prog (TpuEff nD τ sig (Elt F) Λ₀ .tc) α} :
    env B K ⊢ iprop(ready (true, l, h) c -∗ owing i c
          -∗ (under (true, l, h) c -∗ owing j c
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load shM (rH l h).toLoadRect hl) fun _ => .op (.store shM (rH l h) w Finset.univ hx hm) fun _ =>
                .op (.enqueueDma (vH shM l h) (.remote (Dev.tc n : Thread nD τ) (vH rhM l h) (.dma (sendSem (true, l, h))) hsc)
                  (.dma (recvSem (true, l, h))) hsrc hdst hsem) k) Q) := by
  subst hi hj
  unfold env ready under
  iintro ⟨#HR, #Hlev⟩ ⟨Hs, Hsrc, Hdst, Har⟩ HO Hk
  iapply (wp_put_y B c l h w hw) $$ Hsrc
  iintro Hsrc
  iapply (wp_start_y B K c l h n hn) $$ [Hs Hsrc Hdst HO]
  · isplitr; · iexact HR
    isplitl [Hs]; · iexact Hs
    isplitl [Hsrc]; · iexact Hsrc
    isplitl [Hdst]; · iexact Hdst
    iexact HO
  iintro ⟨Hlv, HO⟩
  iapply Hk $$ [Hlv Har] [HO]
  · isplitl [Hlv]; · iexact Hlv
    iexact Har
  · iexact HO

theorem wp_send_x (i j : ℕ) (hi : i = semIx (false, l, h)) (hj : j = semIx (false, l, h) + 1) (n : Dev nD) (hn : n = xP c) (w : (rX l h).shape.Idx → Elt F .bf16) (hw : w = B.out l h c)
    {hl : sxM.view.LoadsAt (rX l h).toLoadRect} {hx : (sxM.access (rX l h)).Stores Finset.univ}
    {hm : (Finset.univ : Finset (rX l h).shape.Idx) = Finset.univ ∨ ∀ a, (rX l h).stride a = 1}
    {hsc : (vX rxM l h : Memref sig (Dev.tc n : Thread nD τ).2.kind .vmem _ .bf16).view.ref.isScScratch = false}
    {hsrc : (vX sxM l h).view.WordExact} {hdst : (vX rxM l h).view.WordExact}
    {hsem : DmaTarget.Typed .vmem (.dma (recvSem (false, l, h))) (.remote (Dev.tc n : Thread nD τ) (vX rxM l h) (.dma (sendSem (false, l, h))) hsc)}
    {k : PUnit → Prog (TpuEff nD τ sig (Elt F) Λ₀ .tc) α} :
    env B K ⊢ iprop(ready (false, l, h) c -∗ owing i c
          -∗ (under (false, l, h) c -∗ owing j c
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load sxM (rX l h).toLoadRect hl) fun _ => .op (.store sxM (rX l h) w Finset.univ hx hm) fun _ =>
                .op (.enqueueDma (vX sxM l h) (.remote (Dev.tc n : Thread nD τ) (vX rxM l h) (.dma (sendSem (false, l, h))) hsc)
                  (.dma (recvSem (false, l, h))) hsrc hdst hsem) k) Q) := by
  subst hi hj
  unfold env ready under
  iintro ⟨#HR, #Hlev⟩ ⟨Hs, Hsrc, Hdst, Har⟩ HO Hk
  iapply (wp_put_x B c l h w hw) $$ Hsrc
  iintro Hsrc
  iapply (wp_start_x B K c l h n hn) $$ [Hs Hsrc Hdst HO]
  · isplitr; · iexact HR
    isplitl [Hs]; · iexact Hs
    isplitl [Hsrc]; · iexact Hsrc
    isplitl [Hdst]; · iexact Hdst
    iexact HO
  iintro ⟨Hlv, HO⟩
  iapply Hk $$ [Hlv Har] [HO]
  · isplitl [Hlv]; · iexact Hlv
    iexact Har
  · iexact HO

/-! ## Receiving a block -/

theorem wp_receive_y (n : ℕ) (hlv : ∀ e' : Exch, n ≤ semIx e' → rnd (true, l, h) < rnd e')
    {hsrc : (vH shM l h).view.WordExact} {hdst : (vH rhM l h).view.WordExact} {hl : rhM.view.LoadsAt (rH l h).toLoadRect}
    {k : ((rH l h).shape.Idx → Elt F .bf16) → Prog (TpuEff nD τ sig (Elt F) Λ₀ .tc) α} :
    env B K ⊢ iprop(under (true, l, h) c -∗ owing n c
          -∗ (landed B (true, l, h) c -∗ owing n c
            -∗ wp frame (wpE (defs₀ (F := F)) 𝒱₀ (c : Thread nD τ) none) Set.univ (k (B.hid l h (yP c))) Q)
          -∗ wp frame (wpE (defs₀ (F := F)) 𝒱₀ (c : Thread nD τ) none) Set.univ
              (.op (.waitDma2 (recvSem (true, l, h)) (vH shM l h) (vH rhM l h) hsrc hdst) fun _ => .op (.load rhM (rH l h).toLoadRect hl) k) Q) := by
  unfold env under landed
  iintro ⟨#HR, #Hlev⟩ ⟨Hlv, Har⟩ HO Hk
  iapply (wp_arrive_y B K c l h n hlv) $$ [Har HO]
  · isplitr; · iexact HR
    isplitr; · iexact Hlev
    isplitl [Har]; · iexact Har
    iexact HO
  iintro ⟨Hd, Hz, HO⟩
  iapply (wp_take_y B c l h) $$ Hd
  iintro Hd
  iapply Hk $$ [Hlv Hd Hz] [HO]
  · isplitl [Hlv]; · iexact Hlv
    isplitl [Hd]; · iexact Hd
    iexact Hz
  · iexact HO

theorem wp_receive_x (n : ℕ) (hlv : ∀ e' : Exch, n ≤ semIx e' → rnd (false, l, h) < rnd e')
    {hsrc : (vX sxM l h).view.WordExact} {hdst : (vX rxM l h).view.WordExact} {hl : rxM.view.LoadsAt (rX l h).toLoadRect}
    {k : ((rX l h).shape.Idx → Elt F .bf16) → Prog (TpuEff nD τ sig (Elt F) Λ₀ .tc) α} :
    env B K ⊢ iprop(under (false, l, h) c -∗ owing n c
          -∗ (landed B (false, l, h) c -∗ owing n c
            -∗ wp frame (wpE (defs₀ (F := F)) 𝒱₀ (c : Thread nD τ) none) Set.univ (k (B.out l h (xP c))) Q)
          -∗ wp frame (wpE (defs₀ (F := F)) 𝒱₀ (c : Thread nD τ) none) Set.univ
              (.op (.waitDma2 (recvSem (false, l, h)) (vX sxM l h) (vX rxM l h) hsrc hdst) fun _ => .op (.load rxM (rX l h).toLoadRect hl) k) Q) := by
  unfold env under landed
  iintro ⟨#HR, #Hlev⟩ ⟨Hlv, Har⟩ HO Hk
  iapply (wp_arrive_x B K c l h n hlv) $$ [Har HO]
  · isplitr; · iexact HR
    isplitr; · iexact Hlev
    isplitl [Har]; · iexact Har
    iexact HO
  iintro ⟨Hd, Hz, HO⟩
  iapply (wp_take_x B c l h) $$ Hd
  iintro Hd
  iapply Hk $$ [Hlv Hd Hz] [HO]
  · isplitl [Hlv]; · iexact Hlv
    isplitl [Hd]; · iexact Hd
    iexact Hz
  · iexact HO

/-! ## Loading an operand -/

theorem wp_operand {s : Shape} (M : Memref sig .tc .vmem s .bf16) (r : Rect s) (f : Buf (Elt F) (M.view.loc (c : Thread nD τ)))
    (v : r.shape.Idx → Elt F .bf16) (hv : M.view.readAt (Elt F) r.toLoadRect f = v) {hl : M.view.LoadsAt r.toLoadRect}
    {k : (r.shape.Idx → Elt F .bf16) → Prog (TpuEff nD τ sig (Elt F) Λ₀ .tc) α} :
    held c M f
      ⊢ iprop((held c M f -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  subst hv
  iintro H Hk
  iapply (wp_load 𝒱₀ (c : Thread nD τ) none Set.univ (m := M) (r := r.toLoadRect) (S := Finset.univ) (f := f) (Finset.subset_univ _)) $$ H
  iintro H
  iapply Hk; iexact H

/-! ## The levels awaited at, the result and the departures -/

/-- When a block is awaited, everything still owed comes in later rounds. -/
theorem level_x (l : Fin 3) (h : Fin 2) : ∀ e' : Exch, semIx (false, l, h) ≤ semIx e' → rnd (true, l, h) < rnd e' := by
  revert l h; decide
theorem level_y (l l' : Fin 3) (hl' : l'.val = l.val + 1) (h : Fin 2) :
    ∀ e' : Exch, semIx (true, l', h) ≤ semIx e' → rnd (false, l, h) < rnd e' := by
  revert l l' h; decide
theorem level_last (l : Fin 3) (h : Fin 2) : ∀ e' : Exch, 12 ≤ semIx e' → rnd (false, l, h) < rnd e' := by
  revert l h; decide

/-- Storing rows of the result. -/
theorem wp_result (g0 : (cc0_stg7_0 : Ref sig .tc).ty.Contents (Elt F)) (v w : FVec F S64x128 .bf16) (hw : w = v)
    {hlo : oM.view.LoadsAt (rR h).toLoadRect} {hx : (oM.access (rR h)).Stores Finset.univ}
    {hm : (Finset.univ : Finset (rR h).shape.Idx) = Finset.univ ∨ ∀ a, (rR h).stride a = 1}
    {k : PUnit → Prog (TpuEff nD τ sig (Elt F) Λ₀ .tc) α} :
    held c oM g0
      ⊢ iprop((held c oM (putRows h v g0) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (rR h).toLoadRect hlo) fun _ => .op (.store oM (rR h) w Finset.univ hx hm) k) Q) := by
  subst hw
  unfold putRows
  iintro HW Hk
  iapply (wp_operand c oM (rR h) g0 _ rfl) $$ HW
  iintro HW
  iapply (wp_store 𝒱₀ (c : Thread nD τ) none Set.univ (m := oM) (r := rR h) (Mk := Finset.univ) (hx := hx) (hm := hm) (S := Finset.univ) (f := g0) (Finset.subset_univ _)) $$ HW
  iintro HW
  iapply Hk $$ HW

/-- Waiting for a departure ends an exchange. -/
theorem wp_end_y {hsrc : (vH rhM l h).view.WordExact} {hdst : (vH shM l h).view.WordExact}
    {k : PUnit → Prog (TpuEff nD τ sig (Elt F) Λ₀ .tc) α} :
    env B K ⊢ iprop(landed B (true, l, h) c -∗ owing 12 c
          -∗ (over B (true, l, h) c -∗ owing 12 c -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem (true, l, h)) (vH rhM l h) (vH shM l h) hsrc hdst) k) Q) := by
  unfold env landed over
  iintro ⟨#HR, #Hlev⟩ ⟨Hlv, Hd, Hz⟩ HO Hk
  iapply (wp_depart_y B K c l h) $$ [Hlv HO]
  · isplitr; · iexact HR
    isplitl [Hlv]; · iexact Hlv
    iexact HO
  iintro ⟨Hs, Hzs, HO⟩
  iapply Hk $$ [Hs Hzs Hd Hz] [HO]
  · isplitl [Hs]; · iexact Hs
    isplitl [Hzs]; · iexact Hzs
    isplitl [Hd]; · iexact Hd
    iexact Hz
  · iexact HO

theorem wp_end_x {hsrc : (vX rxM l h).view.WordExact} {hdst : (vX sxM l h).view.WordExact}
    {k : PUnit → Prog (TpuEff nD τ sig (Elt F) Λ₀ .tc) α} :
    env B K ⊢ iprop(landed B (false, l, h) c -∗ owing 12 c
          -∗ (over B (false, l, h) c -∗ owing 12 c -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem (false, l, h)) (vX rxM l h) (vX sxM l h) hsrc hdst) k) Q) := by
  unfold env landed over
  iintro ⟨#HR, #Hlev⟩ ⟨Hlv, Hd, Hz⟩ HO Hk
  iapply (wp_depart_x B K c l h) $$ [Hlv HO]
  · isplitr; · iexact HR
    isplitl [Hlv]; · iexact Hlv
    iexact HO
  iintro ⟨Hs, Hzs, HO⟩
  iapply Hk $$ [Hs Hzs Hd Hz] [HO]
  · isplitl [Hs]; · iexact Hs
    isplitl [Hzs]; · iexact Hzs
    isplitl [Hd]; · iexact Hd
    iexact Hz
  · iexact HO

end Cert.Mlp

end
-- ==== Proof.Enter.lean ====
/-
# Entering, and the twelve exchanges listed

A device signals both peers, handing over its landing slots, and waits for both signals: then every exchange is ready.
-/
module

public import proofs.«01_k».proof.Proof.Turns

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F) (K : Dev nD × Key → ℕ) (c : Dev nD)

/-- The duties of the barrier a device pays, its position there, and its credit for the wait. -/
def entry : sProp 𝕄 :=
  iprop((dutyTok ER (barCell (yP c)) 0 true ∗ dutyTok ER (barCell (xP c)) 0 false ∗ atPos ER (barCell c) 0 ∅ 0)
    ∗ cred (tallyAt (barCell c) () 2))

/-- What an exchange lacks before the entry: the peer's landing slot. -/
def waiting (e : Exch) (c : Dev nD) : sProp 𝕄 := iprop(starting e c ∗ srcAny e c ∗ arriving e c)

omit [FloatOps F] in
theorem slots_peers : bigSep Finset.univ (fun e : Exch => (dstAny e (peer e c) : sProp 𝕄)) = iprop(slotsOf false (xP c) ∗ slotsOf true (yP c)) := by
  unfold slotsOf
  rw [bigSep_univ_prod, bigSep_univ_eq_bigSepL [false, true] (by decide) (by decide), bigSepL_cons_cons, bigSepL_singleton]
  rfl

omit [FloatOps F] in
theorem now_ready (e : Exch) : iprop(waiting e c ∗ dstAny e (peer e c)) ⊢ (ready e c : sProp 𝕄) := by
  unfold waiting ready
  iintro ⟨⟨H1, H2, H3⟩, H4⟩
  isplitl [H1]; · iexact H1
  isplitl [H2]; · iexact H2
  isplitl [H4]; · iexact H4
  iexact H3

omit [FloatOps F] in
theorem all_ready : iprop((bigSep Finset.univ fun e : Exch => waiting e c) ∗ slotsOf false (xP c) ∗ slotsOf true (yP c))
    ⊢ (bigSep Finset.univ fun e : Exch => ready e c : sProp 𝕄) := by
  rw [← slots_peers c, ← bigSep_sep']
  exact bigSep_mono fun e _ => now_ready c e

variable {α : Type} {Q : α → sProp (MT nD τ sig Unit (Elt F) ℕ UU ℕ)}

theorem wp_enter (n₁ n₂ : Dev nD) (h₁ : n₁ = yP c) (h₂ : n₂ = xP c) (W : Waits sig Unit)
    {k : Prog (TpuEff nD τ sig (Elt F) Λ₀ .tc) α} :
    env B K ⊢ iprop(entry c -∗ slotsOf true c -∗ slotsOf false c -∗ (bigSep Finset.univ fun e : Exch => waiting e c) -∗ owes (c : Thread nD τ) (O₀ c) W
          -∗ ((bigSep Finset.univ fun e : Exch => ready e c) -∗ semVal (barCell c) 0 -∗ owing 0 c
            -∗ wp frame (wpE (defs₀ (F := F)) 𝒱₀ (c : Thread nD τ) none) Set.univ k Q)
          -∗ wp frame (wpE (defs₀ (F := F)) 𝒱₀ (c : Thread nD τ) none) Set.univ
              (.op (.semSignal ((n₁, .tc) : Thread nD τ) barS (1#32 : BitVec 32).toInt) fun _ =>
                .op (.semSignal ((n₂, .tc) : Thread nD τ) barS (1#32 : BitVec 32).toInt) fun _ =>
                .op (.semWait barS (2#32 : BitVec 32).toInt) fun _ => k) Q) := by
  subst h₁ h₂
  unfold env entry
  iintro ⟨#HR, #Hlev⟩ ⟨⟨Hty, Htx, Hat⟩, Hc⟩ Hsy Hsx Hw HO Hk
  ihave #HIy := (records_inv B K (yP c, none)) $$ HR
  ihave #HIx := (records_inv B K (xP c, none)) $$ HR
  ihave #HI := (records_inv B K (c, none)) $$ HR
  ihave #HRy := (records_reached B K (yP c, none)) $$ HR
  ihave #HRx := (records_reached B K (xP c, none)) $$ HR
  iapply (Rounds.wp_signal 𝒱₀ ER (sched B) (c : Thread nD τ) none (dst := (yP c : Thread nD τ)) (κ := K (yP c, none))
      (d := true) (by rw [duties_bar]; exact Finset.mem_univ _) ((amount_bar B (yP c) true).trans (by decide)) () (O₁ c) rfl)
    $$ [HO Hty Hsy]
  · isplitr; · iexact HIy
    isplitl [HO]; · iexact HO
    isplitl [Hty]; · iexact Hty
    isplitl [Hsy]; · rw [payload_bar_true, yP_yP]; iexact Hsy
    iexact HRy
  iintro HO
  iapply (Rounds.wp_signal 𝒱₀ ER (sched B) (c : Thread nD τ) none (dst := (xP c : Thread nD τ)) (κ := K (xP c, none))
      (d := false) (by rw [duties_bar]; exact Finset.mem_univ _) ((amount_bar B (xP c) false).trans (by decide)) () (due 0 c) rfl)
    $$ [HO Htx Hsx]
  · isplitr; · iexact HIx
    isplitl [HO]; · iexact HO
    isplitl [Htx]; · iexact Htx
    isplitl [Hsx]; · rw [payload_bar_false, xP_xP]; iexact Hsx
    iexact HRx
  iintro HO
  iapply (Rounds.wp_wait_rest_token 𝒱₀ ER (sched B) (c : Thread nD τ) none (κ := K (c, none))
      (wpE_semWait_eq 𝒱₀ (c : Thread nD τ) none Set.univ) (Set.mem_univ _) () (O := due 0 c) (W := W) (R := 0) (m := 0) (T := ∅)
      (by rw [expect_bar]; decide)) $$ [Hc HO Hat]
  · isplitr; · iexact HI
    isplitl [Hc]; · iexact Hc
    isplitl [HO]; · iexact HO
    isplitr
    · iapply (mayWait_due 0 c (.reg barS) (fun e _ => by rw [decode_bar]; show 1 < 2 + rnd e; omega)); iexact Hlev
    iexact Hat
  iintro ⟨HO, Hat, -, Hpay⟩
  ihave Hp := (Entails.of_eq (rest_bar B c)) $$ Hpay
  imod (Rounds.cell_close ER (sched B) (Set.mem_univ (K (c, none))) (fun h => h) (R := 0 + 1) (duties_later B (barCell c))) $$ [Hat] with Hz
  · isplitr; · iexact HI
    iexact Hat
  ihave Hr := (all_ready c) $$ [Hw Hp]
  · isplitl [Hw]; · iexact Hw
    iexact Hp
  iapply Hk $$ Hr Hz [HO]
  unfold owing
  iexists _; iexact HO

omit [FloatOps F] in
/-- The exchanges one by one, in the order in which they start. -/
theorem exch_all (Φ : Exch → sProp 𝕄) : bigSep Finset.univ Φ
    = iprop(Φ (true, 0, 0) ∗ Φ (true, 0, 1) ∗ Φ (false, 0, 0) ∗ Φ (false, 0, 1) ∗ Φ (true, 1, 0) ∗ Φ (true, 1, 1)
        ∗ Φ (false, 1, 0) ∗ Φ (false, 1, 1) ∗ Φ (true, 2, 0) ∗ Φ (true, 2, 1) ∗ Φ (false, 2, 0) ∗ Φ (false, 2, 1)) :=
  bigSep_univ_eq_bigSepL [(true, 0, 0), (true, 0, 1), (false, 0, 0), (false, 0, 1), (true, 1, 0), (true, 1, 1),
    (false, 1, 0), (false, 1, 1), (true, 2, 0), (true, 2, 1), (false, 2, 0), (false, 2, 1)] (by decide) (by decide) Φ

end Cert.Mlp

end
-- ==== Proof.Setup.lean ====
/-
# Setting up the exchanges at launch

The cells of all devices and their duty tokens are minted together; every device keeps its positions and receives the
tokens of the duties it pays, at its own cells and at its peers'. What the devices owe at launch gives every device
the credit for its waits.
-/
module

public import proofs.«01_k».proof.Proof.Enter

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Blocks F)

/-! ## The semaphores -/

/-- The kernel's own semaphores: the two of every exchange. -/
abbrev osem (k : Bool × Exch) : SemLoc sig := csem (some k)

theorem ownSemFacts : Pipeline.OwnSemFacts cfg0.spec osem :=
  ⟨by decide, fun a b h => Option.some.inj (csem_inj h), by decide⟩

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

section Sums

variable {I : Type} [DecidableEq I] [Fintype I]

omit [FloatOps F] in
/-- A conjunction over an optional index: the missing index apart. -/
theorem opt_all (Φ : Option I → sProp 𝕄) : bigSep Finset.univ Φ = iprop(Φ none ∗ bigSep Finset.univ fun i => Φ (some i)) := by
  rw [bigSep_univ_at _ none, show (Finset.univ : Finset (Option I)).erase none = Finset.univ.map ⟨some, Option.some_injective I⟩ from by
    ext o; cases o <;> simp, bigSep_map]
  rfl

omit [FloatOps F] in
/-- A conjunction over a device's cells: its barrier, its departures, its arrivals. -/
theorem keys_all (Φ : Key → sProp 𝕄) : bigSep Finset.univ Φ
    = iprop(Φ none ∗ (bigSep Finset.univ fun e : Exch => Φ (some (false, e))) ∗ bigSep Finset.univ fun e : Exch => Φ (some (true, e))) := by
  rw [opt_all, bigSep_univ_prod, bigSep_univ_eq_bigSepL [false, true] (by decide) (by decide), bigSepL_cons_cons, bigSepL_singleton]
  rfl

end Sums

/-! ## The launch's element -/

def cellSet : Finset (GSem nD τ sig) := Finset.univ.map ⟨kcell, kcell_inj⟩

/-- The duties of a device's own cells: `false` at each, and `true` at the barrier. -/
def tokOf (ck : Dev nD × Option Key) : GSem nD τ sig × ℕ × Bool :=
  (kcell (ck.1, ck.2.elim none id), 0, ck.2.isNone)
theorem tokOf_inj : Function.Injective tokOf := by
  rintro ⟨c, k⟩ ⟨c', k'⟩ h
  have h1 := kcell_inj (congrArg Prod.fst h)
  have h2 : k.isNone = k'.isNone := congrArg (fun x : GSem nD τ sig × ℕ × Bool => x.2.2) h
  have hc : c = c' := congrArg Prod.fst h1
  have hk : k.elim none id = k'.elim none id := congrArg Prod.snd h1
  subst hc
  cases k <;> cases k'
  · rfl
  · exact absurd h2 (by simp)
  · exact absurd h2 (by simp)
  · exact congrArg (fun x : Key => (c, some x)) hk
def tokSet : Finset (GSem nD τ sig × ℕ × Bool) := Finset.univ.map ⟨tokOf, tokOf_inj⟩

def u₀ : UU := (initOf (Pipeline.cells cfgs cellOf_inj) (Pipeline.launchToks cfgs cellOf_inj), initOf cellSet tokSet)

/-- The duty tokens of device `c`'s own cells. -/
def minted (c : Dev nD) : sProp 𝕄 :=
  iprop(dutyTok ER (barCell c) 0 true ∗ dutyTok ER (barCell c) 0 false
    ∗ (bigSep Finset.univ fun e : Exch => dutyTok ER (sendCell e c) 0 false)
    ∗ bigSep Finset.univ fun e : Exch => dutyTok ER (recvCell e c) 0 false)

/-- The positions of device `c` at its cells, and that they have reached round 0. -/
def placed (c : Dev nD) : sProp 𝕄 :=
  bigSep Finset.univ fun k : Key => iprop(atPos ER (kcell (c, k)) 0 ∅ 0 ∗ reached ER (kcell (c, k)) 0)

def G (c : Dev nD) : sProp 𝕄 :=
  iprop((bigSep Finset.univ fun k : Key => roundState ER (sched B) (kcell (c, k)) 0) ∗ placed c ∗ minted c)

omit [FloatOps F] in
theorem minted_eq (c : Dev nD) : (bigSep Finset.univ fun k : Option Key =>
      (dutyTok ER (tokOf (c, k)).1 (tokOf (c, k)).2.1 (tokOf (c, k)).2.2 : sProp 𝕄)) = minted c := by
  rw [opt_all, keys_all]
  rfl

omit [FloatOps F] in
theorem fund : BI.own (ER (initOf cellSet tokSet)) ⊢ (|==> bigSep Finset.univ (G B) : sProp 𝕄) := by
  have hX (Φ : GSem nD τ sig → sProp 𝕄) : bigSep cellSet Φ = bigSep Finset.univ fun c : Dev nD => bigSep Finset.univ fun k : Key => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet; rw [bigSep_map, bigSep_univ_prod]
    exact bigSep_congr fun c _ => minted_eq c
  iintro HX
  imod (Rounds.fund ER (sched B) cellSet tokSet) $$ HX with ⟨Hst, Hr, Hat, Htok⟩
  imodintro
  ihave Hst' := (Entails.of_eq (hX fun g => roundState ER (sched B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G placed; simp only [bigSep_sep']
  isplitl [Hst']; · iexact Hst'
  isplitl [Hat' Hr']
  · isplitl [Hat'] <;> iassumption
  iexact Htok'

/-! ## The invariants allocated, the tokens dealt -/

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [unscoped_eq, opt_all]
  unfold Pipeline.ownSems0
  iintro ⟨HS, HB⟩
  isplitl [HB]; · iexact HB
  iexact HS

/-- The cells of one device under invariants, at names of its own. -/
def walled (c : Dev nD) : sProp 𝕄 := bigSep Finset.univ fun k : Key => iprop(∃ κ : ℕ, cellInv ER (sched B) κ (kcell (c, k)))

omit [FloatOps F] in
theorem wall (c : Dev nD) : iprop((bigSep Finset.univ fun k : Key => semVal (kcell (c, k)) 0) ∗ bigSep Finset.univ fun k : Key => roundState ER (sched B) (kcell (c, k)) 0)
    ⊢ (|={Set.univ}=> walled B c : sProp 𝕄) := by
  unfold walled
  rw [← bigSep_sep']
  exact (bigSep_mono fun k _ => (Rounds.body_intro ER (sched B) (kcell (c, k))).trans inv_alloc).trans (bigSep_fupd _ _)

omit [FloatOps F] in
theorem alloc (c : Dev nD) :
    iprop(Pipeline.ownSems0 (Ix := Unit) (Name := ℕ) (U := UU) (Lvl := ℕ) (Val := Elt F) (τ := τ) osem c ∗ unscopedSems0 c ∗ G B c)
      ⊢ |={Set.univ}=> iprop(walled B c ∗ placed c ∗ minted c) := by
  unfold G
  iintro ⟨Hos, Hus, Hst, Hat, Htok⟩
  ihave Hv := (sems_eq (F := F) c) $$ [Hos Hus]
  · isplitl [Hos] <;> iassumption
  imod (wall B c) $$ [Hv Hst] with Hinv
  · isplitl [Hv] <;> iassumption
  imodintro
  isplitl [Hinv]; · iexact Hinv
  isplitl [Hat]; · iexact Hat
  iexact Htok

/-- What device `c` takes into its body, the records aside: the barrier duties it pays and its position there, what
    starting each exchange spends, its positions at the arrivals. -/
def linear (c : Dev nD) : sProp 𝕄 :=
  iprop((dutyTok ER (barCell (yP c)) 0 true ∗ dutyTok ER (barCell (xP c)) 0 false ∗ atPos ER (barCell c) 0 ∅ 0)
    ∗ (bigSep Finset.univ fun e : Exch => starting e c)
    ∗ bigSep Finset.univ fun e : Exch => atPos ER (recvCell e c) 0 ∅ 0)

/-- A device and an exchange, the device swapped for the peer in it. -/
def swap : Dev nD × Exch ≃ Dev nD × Exch :=
  ⟨fun p => (peer p.2 p.1, p.2), fun p => (peer p.2 p.1, p.2), fun p => by simp only [peer_peer], fun p => by simp only [peer_peer]⟩

omit [FloatOps F] in
/-- An arrival's token goes to the peer that sends. -/
theorem dealt : (bigSep Finset.univ fun c : Dev nD => bigSep Finset.univ fun e : Exch => (dutyTok ER (recvCell e c) 0 false : sProp 𝕄))
    = bigSep Finset.univ fun c : Dev nD => bigSep Finset.univ fun e : Exch => dutyTok ER (recvCell e (peer e c)) 0 false := by
  rw [← bigSep_univ_prod (fun p : Dev nD × Exch => (dutyTok ER (recvCell p.2 p.1) 0 false : sProp 𝕄)),
    bigSep_univ_equiv swap, bigSep_univ_prod]
  rfl

/-- What a device holds once the tokens have gone round. -/
def kept (c : Dev nD) : sProp 𝕄 :=
  iprop(dutyTok ER (barCell (yP c)) 0 true ∗ dutyTok ER (barCell (xP c)) 0 false
    ∗ (bigSep Finset.univ fun e : Exch => dutyTok ER (sendCell e c) 0 false)
    ∗ bigSep Finset.univ fun e : Exch => dutyTok ER (recvCell e (peer e c)) 0 false)

omit [FloatOps F] in
theorem go_round : (bigSep Finset.univ fun c : Dev nD => (minted c : sProp 𝕄)) ⊢ bigSep Finset.univ fun c : Dev nD => kept c := by
  unfold minted kept
  rw [bigSep_sep', bigSep_sep', bigSep_sep', bigSep_sep', bigSep_sep', bigSep_sep', dealt,
    bigSep_univ_equiv (around (true, 0, 0)) (fun c : Dev nD => (dutyTok ER (barCell c) 0 true : sProp 𝕄)),
    bigSep_univ_equiv (around (false, 0, 0)) (fun c : Dev nD => (dutyTok ER (barCell c) 0 false : sProp 𝕄))]
  exact BI.Entails.refl _

omit [FloatOps F] in
theorem linear_intro (c : Dev nD) : iprop((bigSep Finset.univ fun k : Key => atPos ER (kcell (c, k)) 0 ∅ 0) ∗ kept c) ⊢ (linear c : sProp 𝕄) := by
  unfold linear kept starting
  rw [keys_all, bigSep_sep', bigSep_sep']
  iintro ⟨⟨Ab, As, Ar⟩, T1, T2, Ts, Tr⟩
  isplitl [Ab T1 T2]
  · isplitl [T1]; · iexact T1
    isplitl [T2]; · iexact T2
    iexact Ab
  isplitr [Ar]
  · isplitl [Ts]; · iexact Ts
    isplitl [Tr]; · iexact Tr
    iexact As
  iexact Ar

/-- What the global step gives a device. -/
def G' (c : Dev nD) : sProp 𝕄 := iprop(∃ K, records B K ∗ linear c)

omit [FloatOps F] in
/-- Something to keep is given to every member of a conjunction. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem given (K : Dev nD × Key → ℕ) (c : Dev nD) :
    iprop(records B K ∗ ((bigSep Finset.univ fun k : Key => atPos ER (kcell (c, k)) 0 ∅ 0) ∗ kept c)) ⊢ (G' B c : sProp 𝕄) := by
  unfold G'
  iintro ⟨HR, H⟩
  iexists K
  isplitl [HR]; · iexact HR
  iapply (linear_intro c); iexact H

omit [FloatOps F] in
theorem regroup : (bigSep Finset.univ fun c : Dev nD => iprop(walled B c ∗ placed c ∗ minted c) : sProp 𝕄) ⊢ bigSep Finset.univ (G' B) := by
  unfold walled placed
  rw [bigSep_sep', bigSep_sep', ← bigSep_univ_prod (fun ck : Dev nD × Key => iprop(∃ κ : ℕ, cellInv ER (sched B) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (sched B) κ (kcell ck) : sProp 𝕄))) $$ HI
  icases HK with ⟨%K, #HI⟩
  ihave Htk := (go_round (F := F)) $$ Htok
  iapply (share_out (R := records B K) fun c _ => given B K c)
  isplitr
  · unfold records; isplitl; · iexact HI
    iexact HR
  · rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G B c) : sProp 𝕄)
    ⊢ |={Set.univ}=> bigSep Finset.univ (G' B) :=
  ((bigSep_mono fun c _ => alloc B c).trans (bigSep_fupd _ _)).trans (BI.fupd_mono (regroup B))

/-! ## The credit -/

theorem sem_bar_ne (e : Exch) : SemLoc.dma (recvSem e) ≠ (SemLoc.reg barS : SemLoc sig) := fun h => nomatch h

theorem barCell_inj {a b : Dev nD} (h : barCell a = barCell b) : a = b := congrArg (fun g : GSem nD τ sig => g.1.1) h
theorem recvCell_inj {e e' : Exch} {a b : Dev nD} (h : recvCell e a = recvCell e' b) : e = e' ∧ a = b := by
  have h' : ((a, some (true, e)) : Dev nD × Key) = (b, some (true, e')) := kcell_inj h
  exact ⟨congrArg Prod.snd (Option.some.inj (congrArg Prod.snd h')), congrArg Prod.fst h'⟩

/-- A unit at device `d`'s peer is owed to `c` exactly if `d` is the peer of `c`. -/
theorem unit_at (e : Exch) (d c : Dev nD) : tallyAt (barCell (peer e d)) () 1 (barCell c) () = if d = peer e c then 1 else 0 := by
  rw [tallyAt_apply]
  by_cases h : d = peer e c
  · subst h; rw [peer_peer, if_pos ⟨rfl, rfl⟩, if_pos rfl]
  · rw [if_neg (fun h' => h (by rw [barCell_inj h'.1, peer_peer])), if_neg h]

theorem due_bar (d c : Dev nD) : due 0 d (barCell c) () = 0 := by
  unfold due
  rw [Finset.sum_apply, Finsupp.finset_sum_apply]
  exact Finset.sum_eq_zero fun e _ => by rw [tallyAt_ne_cell (fun h => sem_bar_ne e (congrArg Prod.snd h).symm)]; rfl

theorem owed_bar (d c : Dev nD) : O₀ d (barCell c) () = (if d = xP c then 1 else 0) + (if d = yP c then 1 else 0) := by
  unfold O₀ O₁
  rw [Pi.add_apply, Finsupp.add_apply, Pi.add_apply, Finsupp.add_apply, due_bar, Nat.zero_add]
  exact congrArg₂ (· + ·) (unit_at (false, 0, 0) d c) (unit_at (true, 0, 0) d c)

theorem owed_recv (e : Exch) (d c : Dev nD) : O₀ d (recvCell e c) () = if d = peer e c then amt e else 0 := by
  unfold O₀ O₁ due
  rw [Pi.add_apply, Finsupp.add_apply, Pi.add_apply, Finsupp.add_apply,
    tallyAt_ne_cell (fun h => sem_bar_ne e (congrArg Prod.snd h)), tallyAt_ne_cell (fun h => sem_bar_ne e (congrArg Prod.snd h)),
    Finsupp.zero_apply, Nat.add_zero, Nat.add_zero, Finset.sum_apply, Finsupp.finset_sum_apply,
    Finset.sum_eq_single e (fun e' _ hne => by rw [tallyAt_apply, if_neg (fun h => hne (recvCell_inj h.1).1.symm)])
      (fun h => absurd (Finset.mem_filter.mpr ⟨Finset.mem_univ e, Nat.zero_le _⟩) h), tallyAt_apply]
  by_cases h : d = peer e c
  · subst h; rw [peer_peer, if_pos ⟨rfl, rfl⟩, if_pos rfl]
  · rw [if_neg (fun h' => h (by rw [(recvCell_inj h'.1).2, peer_peer])), if_neg h]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xP c) fun _ => 1, Finset.sum_ite_eq' Finset.univ (yP c) fun _ => 1, if_pos (Finset.mem_univ _), if_pos (Finset.mem_univ _)]

theorem credit_recv (e : Exch) (c : Dev nD) :
    tallyOn (recvCell e c) (launchCredit (Pipeline.owing O₀) 0 (recvCell e c)) = (tallyAt (recvCell e c) () (amt e) : CellTallies nD τ sig Unit) := by
  unfold tallyAt; refine congrArg _ (Finsupp.ext fun u => ?_); cases u
  rw [Pipeline.launchCredit_owing, Finsupp.single_eq_same, Finset.sum_congr rfl fun d _ => owed_recv e d c,
    Finset.sum_ite_eq' Finset.univ (peer e c) fun _ => amt e, if_pos (Finset.mem_univ _)]

theorem recvLoc_inj : Function.Injective (fun e : Exch => (SemLoc.dma (recvSem e) : SemLoc sig)) := fun a b h =>
  congrArg Prod.snd (Option.some.inj (csem_inj (a₁ := some (true, a)) (a₂ := some (true, b)) h))

omit [FloatOps F] in
theorem credits (c : Dev nD) :
    (Pipeline.launchCred O₀ c : sProp 𝕄)
      ⊢ iprop(cred (tallyAt (barCell c) () 2) ∗ bigSep Finset.univ fun e : Exch => cred (tallyAt (recvCell e c) () (amt e))) := by
  unfold Pipeline.launchCred
  rw [bigSep_univ_at _ (SemLoc.reg barS), credit_bar]
  rw [show (bigSep Finset.univ fun e : Exch => (cred (tallyAt (recvCell e c) () (amt e)) : sProp 𝕄))
      = bigSep (Finset.univ.map ⟨_, recvLoc_inj⟩) fun sm : SemLoc sig =>
        cred (tallyOn ((c : Thread nD τ), sm) (launchCredit (Pipeline.owing O₀) 0 ((c : Thread nD τ), sm))) from by
    rw [bigSep_map]; exact bigSep_congr fun e _ => by rw [← credit_recv]; rfl]
  refine sep_mono_right (BI.bigSep_subset fun s hs => ?_)
  obtain ⟨e, -, rfl⟩ := Finset.mem_map.mp hs
  exact Finset.mem_erase.mpr ⟨sem_bar_ne e, Finset.mem_univ _⟩

end Cert.Mlp

end
-- ==== Proof.Slots.lean ====
/-
# The scratch buffers and their slots

A scratch buffer held whole is its six slots held one by one, and the other way around.
-/
module

public import proofs.«01_k».proof.Proof.Turns

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A layer and a half. -/
abbrev Slot : Type := Fin 3 × Fin 2

theorem rH_disjoint (a b : Slot) (h : a ≠ b) : Disjoint (rH a.1 a.2).set (rH b.1 b.2).set := by
  rw [Finset.disjoint_left]
  intro i hi hj
  rw [Rect.mem_set_unit] at hi hj
  have h0 := hi 0; have h1 := hi 1; have g0 := hj 0; have g1 := hj 1
  refine h (Prod.ext (Fin.ext ?_) (Fin.ext ?_))
  · change a.1.val ≤ _ ∧ _ < a.1.val + 1 at h0; change b.1.val ≤ _ ∧ _ < b.1.val + 1 at g0; omega
  · change a.2.val ≤ _ ∧ _ < a.2.val + 1 at h1; change b.2.val ≤ _ ∧ _ < b.2.val + 1 at g1; omega
theorem rX_disjoint (a b : Slot) (h : a ≠ b) : Disjoint (rX a.1 a.2).set (rX b.1 b.2).set := by
  rw [Finset.disjoint_left]
  intro i hi hj
  rw [Rect.mem_set_unit] at hi hj
  have h0 := hi 0; have h1 := hi 1; have g0 := hj 0; have g1 := hj 1
  refine h (Prod.ext (Fin.ext ?_) (Fin.ext ?_))
  · change a.1.val ≤ _ ∧ _ < a.1.val + 1 at h0; change b.1.val ≤ _ ∧ _ < b.1.val + 1 at g0; omega
  · change a.2.val ≤ _ ∧ _ < a.2.val + 1 at h1; change b.2.val ≤ _ ∧ _ < b.2.val + 1 at g1; omega

theorem rH_cover : (Finset.univ.biUnion fun a : Slot => (rH a.1 a.2).set) = Finset.univ := by
  ext i
  simp only [Finset.mem_biUnion, Finset.mem_univ, true_and, iff_true]
  refine ⟨(⟨(i 0).val, (i 0).isLt⟩, ⟨(i 1).val, (i 1).isLt⟩), ?_⟩
  rw [Rect.mem_set_unit]
  have h2 : (i 2).val < 64 := (i 2).isLt
  have h3 : (i 3).val < 256 := (i 3).isLt
  intro a
  fin_cases a
  · exact ⟨Nat.le_refl _, Nat.lt_succ_self _⟩
  · exact ⟨Nat.le_refl _, Nat.lt_succ_self _⟩
  · exact ⟨Nat.zero_le _, by show (i 2).val < 0 + 64; omega⟩
  · exact ⟨Nat.zero_le _, by show (i 3).val < 0 + 256; omega⟩
theorem rX_cover : (Finset.univ.biUnion fun a : Slot => (rX a.1 a.2).set) = Finset.univ := by
  ext i
  simp only [Finset.mem_biUnion, Finset.mem_univ, true_and, iff_true]
  refine ⟨(⟨(i 0).val, (i 0).isLt⟩, ⟨(i 1).val, (i 1).isLt⟩), ?_⟩
  rw [Rect.mem_set_unit]
  have h2 : (i 2).val < 64 := (i 2).isLt
  have h3 : (i 3).val < 128 := (i 3).isLt
  intro a
  fin_cases a
  · exact ⟨Nat.le_refl _, Nat.lt_succ_self _⟩
  · exact ⟨Nat.le_refl _, Nat.lt_succ_self _⟩
  · exact ⟨Nat.zero_le _, by show (i 2).val < 0 + 64; omega⟩
  · exact ⟨Nat.zero_le _, by show (i 3).val < 0 + 128; omega⟩

variable (c : Dev nD)

/-- Device `c` holds all of the buffer of `M`, at some contents. -/
abbrev heldAny {s : Shape} (M : Memref sig .tc .vmem s .bf16) : sProp 𝕄 :=
  iprop(∃ f : Buf (Elt F) (M.view.loc (c : Thread nD τ)), M.view.loc (c : Thread nD τ) ↦{fullShare} f)

/-- The elements of `M` under `r`. -/
abbrev elemsOf {s : Shape} (M : Memref sig .tc .vmem s .bf16) (r : Rect s) : Finset M.view.ty.Idx := (M.view.slice r).set

section Tiles

variable {s : Shape} (M : Memref sig .tc .vmem s .bf16) (r : Slot → Rect s)
  (hd : ∀ a a', a ≠ a' → Disjoint (elemsOf M (r a)) (elemsOf M (r a')))
  (hc : (Finset.univ.biUnion fun a => (elemsOf M (r a))) = Finset.univ)

omit [FloatOps F] in
include hd hc in
/-- A buffer held whole gives every slot of a tiling; -/
theorem slots_of_whole : (heldAny (F := F) c M) ⊢ bigSep Finset.univ fun a : Slot => slotAny c M (r a) := by
  iintro ⟨%f, H⟩
  iapply ((Entails.of_eq (Ring.pointsTo_blocks (fun a => (elemsOf M (r a))) hd hc f)).trans
    (bigSep_mono fun a _ => show _ ⊢ slotAny c M (r a) by unfold slotAny; exact exists_intro (Φ := fun f => (M.view.loc (c : Thread nD τ) ↦[(elemsOf M (r a))]{fullShare} f : sProp 𝕄)) f))
  iexact H

omit [FloatOps F] in
include hd hc in
/-- and back. -/
theorem whole_of_slots (f₀ : Buf (Elt F) (M.view.loc (c : Thread nD τ))) :
    (bigSep Finset.univ fun a : Slot => slotAny c M (r a)) ⊢ heldAny (F := F) c M := by
  unfold slotAny
  exact Ring.pointsTo_blocks_join_exists (ℓ := M.view.loc (c : Thread nD τ)) (fun a => elemsOf M (r a)) hd hc f₀

end Tiles

theorem tiles_sh (a b : Slot) (h : a ≠ b) : Disjoint (elemsOf shM (rH a.1 a.2)) (elemsOf shM (rH b.1 b.2)) := by
  rw [show (elemsOf shM (rH a.1 a.2)) = (rH a.1 a.2).set from View.set_slice_whole cc0_scratch0 _,
    show (elemsOf shM (rH b.1 b.2)) = (rH b.1 b.2).set from View.set_slice_whole cc0_scratch0 _]
  exact rH_disjoint a b h
theorem tiles_rh (a b : Slot) (h : a ≠ b) : Disjoint (elemsOf rhM (rH a.1 a.2)) (elemsOf rhM (rH b.1 b.2)) := by
  rw [show (elemsOf rhM (rH a.1 a.2)) = (rH a.1 a.2).set from View.set_slice_whole cc0_scratch1 _,
    show (elemsOf rhM (rH b.1 b.2)) = (rH b.1 b.2).set from View.set_slice_whole cc0_scratch1 _]
  exact rH_disjoint a b h
theorem tiles_sx (a b : Slot) (h : a ≠ b) : Disjoint (elemsOf sxM (rX a.1 a.2)) (elemsOf sxM (rX b.1 b.2)) := by
  rw [show (elemsOf sxM (rX a.1 a.2)) = (rX a.1 a.2).set from View.set_slice_whole cc0_scratch2 _,
    show (elemsOf sxM (rX b.1 b.2)) = (rX b.1 b.2).set from View.set_slice_whole cc0_scratch2 _]
  exact rX_disjoint a b h
theorem tiles_rx (a b : Slot) (h : a ≠ b) : Disjoint (elemsOf rxM (rX a.1 a.2)) (elemsOf rxM (rX b.1 b.2)) := by
  rw [show (elemsOf rxM (rX a.1 a.2)) = (rX a.1 a.2).set from View.set_slice_whole cc0_scratch3 _,
    show (elemsOf rxM (rX b.1 b.2)) = (rX b.1 b.2).set from View.set_slice_whole cc0_scratch3 _]
  exact rX_disjoint a b h
theorem fills_sh : (Finset.univ.biUnion fun a : Slot => (elemsOf shM (rH a.1 a.2))) = Finset.univ :=
  (congrArg (Finset.univ.biUnion ·) (funext fun a : Slot => View.set_slice_whole cc0_scratch0 (rH a.1 a.2))).trans rH_cover
theorem fills_rh : (Finset.univ.biUnion fun a : Slot => (elemsOf rhM (rH a.1 a.2))) = Finset.univ :=
  (congrArg (Finset.univ.biUnion ·) (funext fun a : Slot => View.set_slice_whole cc0_scratch1 (rH a.1 a.2))).trans rH_cover
theorem fills_sx : (Finset.univ.biUnion fun a : Slot => (elemsOf sxM (rX a.1 a.2))) = Finset.univ :=
  (congrArg (Finset.univ.biUnion ·) (funext fun a : Slot => View.set_slice_whole cc0_scratch2 (rX a.1 a.2))).trans rX_cover
theorem fills_rx : (Finset.univ.biUnion fun a : Slot => (elemsOf rxM (rX a.1 a.2))) = Finset.univ :=
  (congrArg (Finset.univ.biUnion ·) (funext fun a : Slot => View.set_slice_whole cc0_scratch3 (rX a.1 a.2))).trans rX_cover

omit [FloatOps F] in
theorem sources_eq : (bigSep Finset.univ fun e : Exch => (srcAny e c : sProp 𝕄))
    = iprop((bigSep Finset.univ fun a : Slot => slotAny c sxM (rX a.1 a.2)) ∗ bigSep Finset.univ fun a : Slot => slotAny c shM (rH a.1 a.2)) := by
  rw [bigSep_univ_prod, bigSep_univ_eq_bigSepL [false, true] (by decide) (by decide), bigSepL_cons_cons, bigSepL_singleton]
  rfl

omit [FloatOps F] in
theorem wide_eq : (slotsOf true c : sProp 𝕄) = bigSep Finset.univ fun a : Slot => slotAny c rhM (rH a.1 a.2) := rfl
omit [FloatOps F] in
theorem narrow_eq : (slotsOf false c : sProp 𝕄) = bigSep Finset.univ fun a : Slot => slotAny c rxM (rX a.1 a.2) := rfl

omit [FloatOps F] in
/-- The four scratch buffers cut into the sending slots and the landing slots. -/
theorem scratch_cut : iprop(heldAny c shM ∗ heldAny c rhM ∗ heldAny c sxM ∗ heldAny c rxM)
    ⊢ (iprop((bigSep Finset.univ fun e : Exch => srcAny e c) ∗ slotsOf true c ∗ slotsOf false c) : sProp 𝕄) := by
  rw [sources_eq, wide_eq, narrow_eq]
  iintro ⟨H0, H1, H2, H3⟩
  isplitl [H0 H2]
  · isplitl [H2]
    · iapply (slots_of_whole c sxM (fun a => rX a.1 a.2) tiles_sx fills_sx); iexact H2
    · iapply (slots_of_whole c shM (fun a => rH a.1 a.2) tiles_sh fills_sh); iexact H0
  isplitl [H1]
  · iapply (slots_of_whole c rhM (fun a => rH a.1 a.2) tiles_rh fills_rh); iexact H1
  · iapply (slots_of_whole c rxM (fun a => rX a.1 a.2) tiles_rx fills_rx); iexact H3

/-- The slots joined back into the four buffers. -/
theorem scratch_join : (iprop((bigSep Finset.univ fun e : Exch => srcAny e c) ∗ slotsOf true c ∗ slotsOf false c) : sProp 𝕄)
    ⊢ iprop(heldAny c shM ∗ heldAny c rhM ∗ heldAny c sxM ∗ heldAny c rxM) := by
  rw [sources_eq, wide_eq, narrow_eq]
  iintro ⟨⟨H2, H0⟩, H1, H3⟩
  isplitl [H0]
  · iapply (whole_of_slots c shM (fun a => rH a.1 a.2) tiles_sh fills_sh (constant (F := F) S3x2x64x256 .bf16 0x0000#16)); iexact H0
  isplitl [H1]
  · iapply (whole_of_slots c rhM (fun a => rH a.1 a.2) tiles_rh fills_rh (constant (F := F) S3x2x64x256 .bf16 0x0000#16)); iexact H1
  isplitl [H2]
  · iapply (whole_of_slots c sxM (fun a => rX a.1 a.2) tiles_sx fills_sx (constant (F := F) S3x2x64x128 .bf16 0x0000#16)); iexact H2
  · iapply (whole_of_slots c rxM (fun a => rX a.1 a.2) tiles_rx fills_rx (constant (F := F) S3x2x64x128 .bf16 0x0000#16)); iexact H3

end Cert.Mlp

end
-- ==== Proof.Body.lean ====
/-
# The body of one device

From the entry to the last departure: the twelve exchanges in program order, one turn at a time.
-/
module

public import proofs.«01_k».proof.Proof.Enter

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

omit [FloatOps F] in
theorem hz : (![0, 0] : Fin 2 → Nat) = fun _ => 0 := funext fun a => by fin_cases a <;> rfl

omit [FloatOps F] in
/-- The devices addressed are the peers. -/
theorem dev_y (c n : Dev nD) (h : n.val = (2 * (c.val / 2) + 1) - (c.val % 2)) : n = yP c :=
  Fin.ext (h.trans (by show _ = 2 * (c.val / 2) + (1 - c.val % 2); omega))
omit [FloatOps F] in
theorem dev_x (c n : Dev nD) (h : n.val = ((c.val % 2) + 2) - 2 * (c.val / 2)) : n = xP c :=
  Fin.ext (h.trans (by
    have h4 : c.val < 4 := c.isLt
    show _ = 2 * (1 - c.val / 2) + c.val % 2; omega))

/-- The staged operands of device `c`. -/
def operands : sProp 𝕄 :=
  iprop(held c (Memref.whole cc0_stg0_0) (xOf m c)
    ∗ held c (Memref.whole cc0_stg1_0) (winOf m 0 c) ∗ held c (Memref.whole cc0_stg2_0) (woutOf m 0 c)
    ∗ held c (Memref.whole cc0_stg3_0) (winOf m 1 c) ∗ held c (Memref.whole cc0_stg4_0) (woutOf m 1 c)
    ∗ held c (Memref.whole cc0_stg5_0) (winOf m 2 c) ∗ held c (Memref.whole cc0_stg6_0) (woutOf m 2 c))

/-- What the body leaves of the exchanges and the barrier. -/
def finished : sProp 𝕄 :=
  iprop((bigSep Finset.univ fun e : Exch => over (blocks m) e c) ∗ semVal (barCell c) 0)

set_option maxHeartbeats 1000000 in
set_option maxRecDepth 65536 in
theorem run_body (W : Waits sig Unit) (g : (cc0_stg7_0 : Ref sig .tc).ty.Contents (Elt F)) (Kt : PUnit → sProp 𝕄) :
    env (blocks m) K ⊢ iprop(entry c -∗ slotsOf true c -∗ slotsOf false c -∗ (bigSep Finset.univ fun e : Exch => waiting e c)
        -∗ owes (c : Thread nD τ) (O₀ c) W -∗ operands m c -∗ held c oM g
        -∗ (finished m c -∗ owing 12 c -∗ operands m c -∗ held c oM (resOf m c) -∗ Kt ⟨⟩)
        -∗ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5) Kt) := by
  simp only [cc0_body_eq_skeleton, cc0_body_skel, k0_part1_eq_skeleton, k0_part1_skel, k0_part2_eq_skeleton, k0_part2_skel,
    semSignalWord, semWaitWord, Prog.lift, Prog.bind_op, Prog.bind_ret, Prog.pure_eq_ret, wp_deviceId]
  unfold operands
  iintro #HE He Hsy Hsx Hw HO ⟨Hx, Hw0, Hv0, Hw1, Hv1, Hw2, Hv2⟩ Hout Hk
  iapply (wp_enter (blocks m) K c _ _ (dev_y c _ (k0_dev1_eq c)) (dev_x c _ (k0_dev2_eq c)) W) $$ HE He Hsy Hsx Hw HO
  rw [exch_all]
  iintro ⟨A0, A1, A2, A3, A4, A5, A6, A7, A8, A9, A10, A11⟩ Hbar HO
  iapply (wp_operand c (Memref.whole cc0_stg0_0) (rR 0) (xOf m c) (xHalf m 0 c) rfl) $$ Hx; iintro Hx
  iapply (wp_operand c (Memref.whole cc0_stg1_0) rWin (winOf m 0 c) (winOf m 0 c) (Memref.readAt_unit_zero (Elt F) cc0_stg1_0 hz _ _)) $$ Hw0; iintro Hw0
  iapply (wp_send_y (blocks m) K c 0 0 0 1 rfl rfl _ (dev_y c _ (k0_dev3_eq c)) (k0_pay2 (xHalf m 0 c) (winOf m 0 c)) rfl) $$ HE A0 HO; iintro A0 HO
  simp only [k0_part3_eq_skeleton, k0_part3_skel, Prog.lift, Prog.bind_op, Prog.bind_ret, Prog.pure_eq_ret]
  iapply (wp_operand c (Memref.whole cc0_stg0_0) (rR 1) (xOf m c) (xHalf m 1 c) rfl) $$ Hx; iintro Hx
  iapply (wp_operand c (Memref.whole cc0_stg1_0) rWin (winOf m 0 c) (winOf m 0 c) (Memref.readAt_unit_zero (Elt F) cc0_stg1_0 hz _ _)) $$ Hw0; iintro Hw0
  iapply (wp_send_y (blocks m) K c 0 1 1 2 rfl rfl _ (dev_y c _ (k0_dev4_eq c)) (k0_pay4 (xHalf m 1 c) (winOf m 0 c)) rfl) $$ HE A1 HO; iintro A1 HO
  simp only [k0_part4_eq_skeleton, k0_part4_skel, Prog.lift, Prog.bind_op, Prog.bind_ret, Prog.pure_eq_ret]
  iapply (wp_receive_y (blocks m) K c 0 0 2 (level_x 0 0)) $$ HE A0 HO; iintro A0 HO
  iapply (wp_operand c (Memref.whole cc0_stg2_0) rWout (woutOf m 0 c) (woutOf m 0 c) (Memref.readAt_unit_zero (Elt F) cc0_stg2_0 hz _ _)) $$ Hv0; iintro Hv0
  iapply (wp_send_x (blocks m) K c 0 0 2 3 rfl rfl _ (dev_x c _ (k0_dev5_eq c)) (k0_pay6 (hid0 m 0 c) ((blocks m).hid 0 0 (yP c)) (woutOf m 0 c)) rfl) $$ HE A2 HO; iintro A2 HO
  simp only [k0_part5_eq_skeleton, k0_part5_skel, Prog.lift, Prog.bind_op, Prog.bind_ret, Prog.pure_eq_ret]
  iapply (wp_receive_y (blocks m) K c 0 1 3 (level_x 0 1)) $$ HE A1 HO; iintro A1 HO
  iapply (wp_operand c (Memref.whole cc0_stg2_0) rWout (woutOf m 0 c) (woutOf m 0 c) (Memref.readAt_unit_zero (Elt F) cc0_stg2_0 hz _ _)) $$ Hv0; iintro Hv0
  iapply (wp_send_x (blocks m) K c 0 1 3 4 rfl rfl _ (dev_x c _ (k0_dev6_eq c)) (k0_pay10 (k0_pay7 (hid0 m 1 c) ((blocks m).hid 0 1 (yP c))) (k0_pay8 (woutOf m 0 c))) rfl) $$ HE A3 HO; iintro A3 HO
  simp only [k0_part6_eq_skeleton, k0_part6_skel, Prog.lift, Prog.bind_op, Prog.bind_ret, Prog.pure_eq_ret]
  iapply (wp_receive_x (blocks m) K c 0 0 4 (level_y 0 1 rfl 0)) $$ HE A2 HO; iintro A2 HO
  iapply (wp_operand c (Memref.whole cc0_stg3_0) rWin (winOf m 1 c) (winOf m 1 c) (Memref.readAt_unit_zero (Elt F) cc0_stg3_0 hz _ _)) $$ Hw1; iintro Hw1
  iapply (wp_send_y (blocks m) K c 1 0 4 5 rfl rfl _ (dev_y c _ (k0_dev7_eq c)) (k0_pay12 (out0 m 0 c) ((blocks m).out 0 0 (xP c)) (winOf m 1 c)) rfl) $$ HE A4 HO; iintro A4 HO
  simp only [k0_part7_eq_skeleton, k0_part7_skel, k0_part8_eq_skeleton, k0_part8_skel, Prog.lift, Prog.bind_op, Prog.bind_ret, Prog.pure_eq_ret]
  iapply (wp_receive_x (blocks m) K c 0 1 5 (level_y 0 1 rfl 1)) $$ HE A3 HO; iintro A3 HO
  iapply (wp_operand c (Memref.whole cc0_stg3_0) rWin (winOf m 1 c) (winOf m 1 c) (Memref.readAt_unit_zero (Elt F) cc0_stg3_0 hz _ _)) $$ Hw1; iintro Hw1
  iapply (wp_send_y (blocks m) K c 1 1 5 6 rfl rfl _ (dev_y c _ (k0_dev8_eq c)) (k0_pay14 (out0 m 1 c) ((blocks m).out 0 1 (xP c)) (winOf m 1 c)) rfl) $$ HE A5 HO; iintro A5 HO
  simp only [k0_part9_eq_skeleton, k0_part9_skel, Prog.lift, Prog.bind_op, Prog.bind_ret, Prog.pure_eq_ret]
  iapply (wp_receive_y (blocks m) K c 1 0 6 (level_x 1 0)) $$ HE A4 HO; iintro A4 HO
  iapply (wp_operand c (Memref.whole cc0_stg4_0) rWout (woutOf m 1 c) (woutOf m 1 c) (Memref.readAt_unit_zero (Elt F) cc0_stg4_0 hz _ _)) $$ Hv1; iintro Hv1
  iapply (wp_send_x (blocks m) K c 1 0 6 7 rfl rfl _ (dev_x c _ (k0_dev9_eq c)) (k0_pay16 (hid1 m 0 c) ((blocks m).hid 1 0 (yP c)) (woutOf m 1 c)) rfl) $$ HE A6 HO; iintro A6 HO
  simp only [k0_part10_eq_skeleton, k0_part10_skel, Prog.lift, Prog.bind_op, Prog.bind_ret, Prog.pure_eq_ret]
  iapply (wp_receive_y (blocks m) K c 1 1 7 (level_x 1 1)) $$ HE A5 HO; iintro A5 HO
  iapply (wp_operand c (Memref.whole cc0_stg4_0) rWout (woutOf m 1 c) (woutOf m 1 c) (Memref.readAt_unit_zero (Elt F) cc0_stg4_0 hz _ _)) $$ Hv1; iintro Hv1
  iapply (wp_send_x (blocks m) K c 1 1 7 8 rfl rfl _ (dev_x c _ (k0_dev10_eq c)) (k0_pay18 (k0_pay17 (hid1 m 1 c) ((blocks m).hid 1 1 (yP c)) (woutOf m 1 c))) rfl) $$ HE A7 HO; iintro A7 HO
  simp only [k0_part11_eq_skeleton, k0_part11_skel, Prog.lift, Prog.bind_op, Prog.bind_ret, Prog.pure_eq_ret]
  iapply (wp_receive_x (blocks m) K c 1 0 8 (level_y 1 2 rfl 0)) $$ HE A6 HO; iintro A6 HO
  iapply (wp_operand c (Memref.whole cc0_stg5_0) rWin (winOf m 2 c) (winOf m 2 c) (Memref.readAt_unit_zero (Elt F) cc0_stg5_0 hz _ _)) $$ Hw2; iintro Hw2
  iapply (wp_send_y (blocks m) K c 2 0 8 9 rfl rfl _ (dev_y c _ (k0_dev11_eq c)) (k0_pay20 (out1 m 0 c) ((blocks m).out 1 0 (xP c)) (winOf m 2 c)) rfl) $$ HE A8 HO; iintro A8 HO
  simp only [k0_part12_eq_skeleton, k0_part12_skel, Prog.lift, Prog.bind_op, Prog.bind_ret, Prog.pure_eq_ret]
  iapply (wp_receive_x (blocks m) K c 1 1 9 (level_y 1 2 rfl 1)) $$ HE A7 HO; iintro A7 HO
  iapply (wp_operand c (Memref.whole cc0_stg5_0) rWin (winOf m 2 c) (winOf m 2 c) (Memref.readAt_unit_zero (Elt F) cc0_stg5_0 hz _ _)) $$ Hw2; iintro Hw2
  iapply (wp_send_y (blocks m) K c 2 1 9 10 rfl rfl _ (dev_y c _ (k0_dev12_eq c)) (k0_pay22 (out1 m 1 c) ((blocks m).out 1 1 (xP c)) (winOf m 2 c)) rfl) $$ HE A9 HO; iintro A9 HO
  simp only [k0_part13_eq_skeleton, k0_part13_skel, k0_part14_eq_skeleton, k0_part14_skel, Prog.lift, Prog.bind_op, Prog.bind_ret, Prog.pure_eq_ret]
  iapply (wp_receive_y (blocks m) K c 2 0 10 (level_x 2 0)) $$ HE A8 HO; iintro A8 HO
  iapply (wp_operand c (Memref.whole cc0_stg6_0) rWout (woutOf m 2 c) (woutOf m 2 c) (Memref.readAt_unit_zero (Elt F) cc0_stg6_0 hz _ _)) $$ Hv2; iintro Hv2
  iapply (wp_send_x (blocks m) K c 2 0 10 11 rfl rfl _ (dev_x c _ (k0_dev13_eq c)) (k0_pay24 (hid2 m 0 c) ((blocks m).hid 2 0 (yP c)) (woutOf m 2 c)) rfl) $$ HE A10 HO; iintro A10 HO
  simp only [k0_part15_eq_skeleton, k0_part15_skel, Prog.lift, Prog.bind_op, Prog.bind_ret, Prog.pure_eq_ret]
  iapply (wp_receive_y (blocks m) K c 2 1 11 (level_x 2 1)) $$ HE A9 HO; iintro A9 HO
  iapply (wp_operand c (Memref.whole cc0_stg6_0) rWout (woutOf m 2 c) (woutOf m 2 c) (Memref.readAt_unit_zero (Elt F) cc0_stg6_0 hz _ _)) $$ Hv2; iintro Hv2
  iapply (wp_send_x (blocks m) K c 2 1 11 12 rfl rfl _ (dev_x c _ (k0_dev14_eq c)) (k0_pay26 (hid2 m 1 c) ((blocks m).hid 2 1 (yP c)) (woutOf m 2 c)) rfl) $$ HE A11 HO; iintro A11 HO
  iapply (wp_receive_x (blocks m) K c 2 0 12 (level_last 2 0)) $$ HE A10 HO; iintro A10 HO
  iapply (wp_result c 0 _ (resHalf m 0 c) (k0_pay27 (out2 m 0 c) ((blocks m).out 2 0 (xP c))) rfl) $$ Hout; iintro Hout
  simp only [k0_part16_eq_skeleton, k0_part16_skel, Prog.lift, Prog.bind_op, Prog.bind_ret, Prog.pure_eq_ret]
  iapply (wp_receive_x (blocks m) K c 2 1 12 (level_last 2 1)) $$ HE A11 HO; iintro A11 HO
  iapply (wp_result c 1 _ (resHalf m 1 c) (k0_pay28 (out2 m 1 c) ((blocks m).out 2 1 (xP c))) rfl) $$ Hout; iintro Hout
  iapply (wp_end_y (blocks m) K c 0 0) $$ HE A0 HO; iintro A0 HO
  simp only [k0_part17_eq_skeleton, k0_part17_skel, Prog.lift, Prog.bind_op, Prog.bind_ret, Prog.pure_eq_ret]
  iapply (wp_end_y (blocks m) K c 0 1) $$ HE A1 HO; iintro A1 HO
  iapply (wp_end_x (blocks m) K c 0 0) $$ HE A2 HO; iintro A2 HO
  iapply (wp_end_x (blocks m) K c 0 1) $$ HE A3 HO; iintro A3 HO
  simp only [k0_part18_eq_skeleton, k0_part18_skel, Prog.lift, Prog.bind_op, Prog.bind_ret, Prog.pure_eq_ret]
  iapply (wp_end_y (blocks m) K c 1 0) $$ HE A4 HO; iintro A4 HO
  iapply (wp_end_y (blocks m) K c 1 1) $$ HE A5 HO; iintro A5 HO
  iapply (wp_end_x (blocks m) K c 1 0) $$ HE A6 HO; iintro A6 HO
  iapply (wp_end_x (blocks m) K c 1 1) $$ HE A7 HO; iintro A7 HO
  simp only [k0_part19_eq_skeleton, k0_part19_skel, Prog.lift, Prog.bind_op, Prog.bind_ret, Prog.pure_eq_ret]
  iapply (wp_end_y (blocks m) K c 2 0) $$ HE A8 HO; iintro A8 HO
  iapply (wp_end_y (blocks m) K c 2 1) $$ HE A9 HO; iintro A9 HO
  iapply (wp_end_x (blocks m) K c 2 0) $$ HE A10 HO; iintro A10 HO
  iapply (wp_end_x (blocks m) K c 2 1) $$ HE A11 HO; iintro A11 HO
  rw [wp_ret]; imodintro
  unfold finished
  rw [exch_all]
  iapply Hk $$ [A0 A1 A2 A3 A4 A5 A6 A7 A8 A9 A10 A11 Hbar] HO [Hx Hw0 Hv0 Hw1 Hv1 Hw2 Hv2] [Hout]
  · isplitr [Hbar]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    · iexact Hbar
  · isplitl [Hx]; · iexact Hx
    isplitl [Hw0]; · iexact Hw0
    isplitl [Hv0]; · iexact Hv0
    isplitl [Hw1]; · iexact Hw1
    isplitl [Hv1]; · iexact Hv1
    isplitl [Hw2]; · iexact Hw2
    iexact Hv2
  · unfold resOf
    rw [putRows_both _ _ (xOf m c) g]
    iexact Hout

end Cert.Mlp

end
-- ==== Proof.Run.lean ====
/-
# The launch

The windows' contents before and after the body, the body's obligation, and the run of the whole program: it
terminates, with the result array at `resOf`, every argument unchanged and every semaphore at zero.
-/
module

public import proofs.«01_k».proof.Proof.Setup
public import proofs.«01_k».proof.Proof.Slots
public import proofs.«01_k».proof.Proof.Body
public import proofs.«01_k».proof.Proof.Gen.KernelIdeal.Points
public import Idealize.ShloMosaic.Lib.Pipeline.CollectiveSegs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c`'s body starts from, the scratch buffers aside. -/
def start (c : Dev nD) : sProp 𝕄 :=
  iprop(G' (blocks m) c ∗ (cred (tallyAt (barCell c) () 2) ∗ bigSep Finset.univ fun e : Exch => cred (tallyAt (recvCell e c) () (amt e))) ∗ levAts L lv)
def scratch (c : Dev nD) : sProp 𝕄 := iprop(heldAny c shM ∗ heldAny c rhM ∗ heldAny c sxM ∗ heldAny c rxM)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => winOf m 0 c
    | ⟨2, _⟩ => woutOf m 0 c
    | ⟨3, _⟩ => winOf m 1 c
    | ⟨4, _⟩ => woutOf m 1 c
    | ⟨5, _⟩ => winOf m 2 c
    | ⟨6, _⟩ => woutOf m 2 c
    | ⟨7, _⟩ => resOf m c
  Φ t := match t with
    | ⟨0, _⟩ => iprop(start m c ∗ scratch c)
    | ⟨_ + 1, _⟩ => finished m c
  q _ := fullShare
  owed t := match t with
    | ⟨0, _⟩ => O₀ c
    | ⟨_ + 1, _⟩ => 0

omit [FloatOps F] in
theorem windows_all (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

theorem before_0 (c : Dev nD) (d) : (dats (F := F) m 0 c).before (0 : Fin 8) t0_0 d = xOf m c := by
  unfold Dat.before; rw [if_pos (fetch0_0 t0_0)]; rfl
theorem before_1 (c : Dev nD) (d) : (dats (F := F) m 0 c).before (1 : Fin 8) t0_0 d = winOf m 0 c := by
  unfold Dat.before; rw [if_pos (fetch0_1 t0_0)]; rfl
theorem before_2 (c : Dev nD) (d) : (dats (F := F) m 0 c).before (2 : Fin 8) t0_0 d = woutOf m 0 c := by
  unfold Dat.before; rw [if_pos (fetch0_2 t0_0)]; rfl
theorem before_3 (c : Dev nD) (d) : (dats (F := F) m 0 c).before (3 : Fin 8) t0_0 d = winOf m 1 c := by
  unfold Dat.before; rw [if_pos (fetch0_3 t0_0)]; rfl
theorem before_4 (c : Dev nD) (d) : (dats (F := F) m 0 c).before (4 : Fin 8) t0_0 d = woutOf m 1 c := by
  unfold Dat.before; rw [if_pos (fetch0_4 t0_0)]; rfl
theorem before_5 (c : Dev nD) (d) : (dats (F := F) m 0 c).before (5 : Fin 8) t0_0 d = winOf m 2 c := by
  unfold Dat.before; rw [if_pos (fetch0_5 t0_0)]; rfl
theorem before_6 (c : Dev nD) (d) : (dats (F := F) m 0 c).before (6 : Fin 8) t0_0 d = woutOf m 2 c := by
  unfold Dat.before; rw [if_pos (fetch0_6 t0_0)]; rfl

/-- The staging buffers as the body finds them, and as it leaves them. -/
def stagedIn (c : Dev nD) : sProp 𝕄 :=
  iprop((∃ d, stg c cc0_stg0_0 ((dats m 0 c).before (0 : Fin 8) t0_0 d)) ∗ (∃ d, stg c cc0_stg1_0 ((dats m 0 c).before (1 : Fin 8) t0_0 d))
    ∗ (∃ d, stg c cc0_stg2_0 ((dats m 0 c).before (2 : Fin 8) t0_0 d)) ∗ (∃ d, stg c cc0_stg3_0 ((dats m 0 c).before (3 : Fin 8) t0_0 d))
    ∗ (∃ d, stg c cc0_stg4_0 ((dats m 0 c).before (4 : Fin 8) t0_0 d)) ∗ (∃ d, stg c cc0_stg5_0 ((dats m 0 c).before (5 : Fin 8) t0_0 d))
    ∗ (∃ d, stg c cc0_stg6_0 ((dats m 0 c).before (6 : Fin 8) t0_0 d)) ∗ (∃ d, stg c cc0_stg7_0 ((dats m 0 c).before (7 : Fin 8) t0_0 d)))
def stagedOut (c : Dev nD) : sProp 𝕄 :=
  iprop(stg c cc0_stg0_0 (xOf m c) ∗ stg c cc0_stg1_0 (winOf m 0 c) ∗ stg c cc0_stg2_0 (woutOf m 0 c) ∗ stg c cc0_stg3_0 (winOf m 1 c)
    ∗ stg c cc0_stg4_0 (woutOf m 1 c) ∗ stg c cc0_stg5_0 (winOf m 2 c) ∗ stg c cc0_stg6_0 (woutOf m 2 c) ∗ stg c cc0_stg7_0 (resOf m c))

theorem staged_in (c : Dev nD) : stagedIn m c ⊢ iprop(operands m c ∗ ∃ g, held c oM g) := by
  unfold stagedIn operands
  simp only [before_0, before_1, before_2, before_3, before_4, before_5, before_6]
  iintro ⟨⟨%_, %f0, %h0, H0⟩, ⟨%_, %f1, %h1, H1⟩, ⟨%_, %f2, %h2, H2⟩, ⟨%_, %f3, %h3, H3⟩, ⟨%_, %f4, %h4, H4⟩, ⟨%_, %f5, %h5, H5⟩, ⟨%_, %f6, %h6, H6⟩, ⟨%_, %f7, -, H7⟩⟩
  subst h0 h1 h2 h3 h4 h5 h6
  isplitr [H7]
  · isplitl [H0]; · iexact H0
    isplitl [H1]; · iexact H1
    isplitl [H2]; · iexact H2
    isplitl [H3]; · iexact H3
    isplitl [H4]; · iexact H4
    isplitl [H5]; · iexact H5
    iexact H6
  · iexists f7; iexact H7

omit [FloatOps F] in
theorem stg_intro (c : Dev nD) (b : Ref sig .tc) (X : b.ty.Contents (Elt F)) :
    ((((c : Thread nD τ).loc b) ↦{fullShare} X : sProp 𝕄)) ⊢ stg c b X := by
  iintro H; iexists X; isplitr; · (ipureintro; rfl)
  iexact H

theorem staged_out (c : Dev nD) : iprop(operands m c ∗ held c oM (resOf m c)) ⊢ stagedOut m c := by
  unfold stagedOut operands
  iintro ⟨⟨H0, H1, H2, H3, H4, H5, H6⟩, H7⟩
  isplitl [H0]; · iapply (stg_intro c cc0_stg0_0 (xOf m c)); iexact H0
  isplitl [H1]; · iapply (stg_intro c cc0_stg1_0 (winOf m 0 c)); iexact H1
  isplitl [H2]; · iapply (stg_intro c cc0_stg2_0 (woutOf m 0 c)); iexact H2
  isplitl [H3]; · iapply (stg_intro c cc0_stg3_0 (winOf m 1 c)); iexact H3
  isplitl [H4]; · iapply (stg_intro c cc0_stg4_0 (woutOf m 1 c)); iexact H4
  isplitl [H5]; · iapply (stg_intro c cc0_stg5_0 (winOf m 2 c)); iexact H5
  isplitl [H6]; · iapply (stg_intro c cc0_stg6_0 (woutOf m 2 c)); iexact H6
  iapply (stg_intro c cc0_stg7_0 (resOf m c)); iexact H7

omit [FloatOps F] in
/-- What starts each exchange, the landing slots aside. -/
theorem waiting_intro (c : Dev nD) : iprop((bigSep Finset.univ fun e : Exch => starting e c) ∗ (bigSep Finset.univ fun e : Exch => srcAny e c)
      ∗ (bigSep Finset.univ fun e : Exch => atPos ER (recvCell e c) 0 ∅ 0) ∗ bigSep Finset.univ fun e : Exch => cred (tallyAt (recvCell e c) () (amt e)))
    ⊢ (bigSep Finset.univ fun e : Exch => waiting e c : sProp 𝕄) := by
  unfold waiting arriving
  rw [bigSep_sep', bigSep_sep', bigSep_sep']

def bodyPre (c : Dev nD) : sProp 𝕄 :=
  iprop((start m c ∗ scratch c) ∗ (dats m 0 c).owesAt () t0_0.castSucc ∗ stagedIn m c)
def bodyPost (c : Dev nD) : sProp 𝕄 :=
  iprop(finished m c ∗ (dats m 0 c).owesAt () t0_0.succ ∗ stagedOut m c)

set_option maxRecDepth 8000 in
theorem body_sound (c : Dev nD) : bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5) (fun _ => bodyPost m c) := by
  unfold bodyPre start scratch G' linear Dat.owesAt Pipeline.owesWithin
  iintro ⟨⟨⟨⟨%K, HR, Hbar, Hst, Hat⟩, ⟨Hcb, Hcr⟩, Hlev⟩, Hscr⟩, ⟨%W, -, HO⟩, Hin⟩
  ihave Hs := (scratch_cut c) $$ Hscr
  icases Hs with ⟨Hsrc, Hy, Hx⟩
  ihave Hw := (waiting_intro c) $$ [Hst Hat Hcr Hsrc]
  · isplitl [Hst]; · iexact Hst
    isplitl [Hsrc]; · iexact Hsrc
    isplitl [Hat]; · iexact Hat
    iexact Hcr
  ihave Hi := (staged_in m c) $$ Hin
  icases Hi with ⟨Hop, ⟨%g, Hg⟩⟩
  ihave HO := (show owes (c : Thread nD τ) ((dats m 0 c).owed t0_0.castSucc) W ⊢ (owes (c : Thread nD τ) (O₀ c) W : sProp 𝕄) from BI.Entails.refl _) $$ HO
  iapply (run_body m K c W g (fun _ => bodyPost m c)) $$ [HR Hlev] [Hbar Hcb] Hy Hx Hw HO Hop Hg
  · unfold env
    isplitl [HR]; · iexact HR
    iexact Hlev
  · unfold entry
    isplitl [Hbar]; · iexact Hbar
    iexact Hcb
  iintro Hf Ho Hop Hg
  unfold bodyPost Dat.owesAt Pipeline.owesWithin owing
  isplitl [Hf]; · iexact Hf
  isplitl [Ho]
  · icases Ho with ⟨%W', Ho⟩
    iexists W'
    isplitr
    · ipureintro; exact fun _ _ => Or.inl trivial
    · rw [due_end]; iexact Ho
  iapply (staged_out m c)
  isplitl [Hop]; · iexact Hop
  iexact Hg

set_option maxRecDepth 8000 in
theorem body_obligation (c : Dev nD) : BodyObligation (dats (F := F) m 0 c) (defs₀ (F := F)) 𝒱₀ () Set.univ := fun t => by
  rw [show t = t0_0 from fin_N0 t]
  rw [windows_all, windows_all]
  simp only [owns_buffer]
  exact body_sound m c

/-! ## The side conditions of the launch -/

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (blocks m) c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs]; · iexact Hs
  iexact Hr

omit [FloatOps F] in
theorem dst_any (B : Blocks F) (e : Exch) (c : Dev nD) : dstHas B e c ⊢ (dstAny e c : sProp 𝕄) := by
  rcases e with ⟨_ | _, l, h⟩
  · exact slotHas_any c rxM (rX l h) _
  · exact slotHas_any c rhM (rH l h) _
omit [FloatOps F] in
theorem landing_eq (c : Dev nD) : (bigSep Finset.univ fun e : Exch => (dstAny e c : sProp 𝕄)) = iprop(slotsOf false c ∗ slotsOf true c) := by
  unfold slotsOf
  rw [bigSep_univ_prod, bigSep_univ_eq_bigSepL [false, true] (by decide) (by decide), bigSepL_cons_cons, bigSepL_singleton]
  rfl

omit [FloatOps F] in
theorem own_eq (c : Dev nD) : (Pipeline.ownSems0 (Ix := Unit) (Name := ℕ) (U := UU) (Lvl := ℕ) (Val := Elt F) (τ := τ) osem c : sProp 𝕄)
    = iprop((bigSep Finset.univ fun e : Exch => semVal (sendCell e c) 0) ∗ bigSep Finset.univ fun e : Exch => semVal (recvCell e c) 0) := by
  unfold Pipeline.ownSems0
  rw [bigSep_univ_prod, bigSep_univ_eq_bigSepL [false, true] (by decide) (by decide), bigSepL_cons_cons, bigSepL_singleton]
  rfl

/-- All exchanges over: the slots, and the semaphores at zero. -/
theorem over_parts (c : Dev nD) : (bigSep Finset.univ fun e : Exch => over (blocks m) e c)
    ⊢ iprop(((bigSep Finset.univ fun e : Exch => srcAny e c) ∗ bigSep Finset.univ fun e : Exch => dstAny e c)
        ∗ Pipeline.ownSems0 (Ix := Unit) (Name := ℕ) (U := UU) (Lvl := ℕ) (Val := Elt F) (τ := τ) osem c) := by
  unfold over
  rw [bigSep_sep', bigSep_sep', bigSep_sep', own_eq]
  iintro ⟨H1, H2, H3, H4⟩
  isplitl [H1 H3]
  · isplitl [H1]; · iexact H1
    iapply (show (bigSep Finset.univ fun e : Exch => dstHas (blocks m) e c) ⊢ (bigSep Finset.univ fun e : Exch => (dstAny e c : sProp 𝕄)) from
      bigSep_mono fun e _ => dst_any (blocks m) e c)
    iexact H3
  isplitl [H2]; · iexact H2
  iexact H4

theorem last_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finished m c from rfl, scopedRest0_eq, unscoped_eq]
  unfold finished
  iintro ⟨Ho, Hb⟩
  ihave Hp := (over_parts m c) $$ Ho
  icases Hp with ⟨⟨Hs, Hd⟩, Hz⟩
  ihave Hd := (Entails.of_eq (landing_eq c)) $$ Hd
  ihave Hr := (scratch_join c) $$ [Hs Hd]
  · isplitl [Hs]; · iexact Hs
    icases Hd with ⟨Hn, Hw⟩
    isplitl [Hw]; · iexact Hw
    iexact Hn
  isplitl [Hb]; · iexact Hb
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

set_option maxRecDepth 8000 in
/-- From any memory with zero counters, every weakly fair execution on the four devices terminates, with every array at
    its final contents and every counter at zero. -/
theorem run_all : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G (blocks m)) (G' := G' (blocks m)) (u₀ := u₀)
    (hu₀ := by
      unfold u₀
      iintro Hu
      ihave H := (ownU_pair _ _) $$ Hu
      icases H with ⟨HP, HX⟩
      imod (fund (blocks m)) $$ HX with HG
      imodintro
      isplitl [HP] <;> iassumption)
    (hglob := glob (blocks m))
    (hA := fun _ _ => rfl) (hpf := fun _ k => k.elim0)
    (X := start m) (Y := fun c => unscopedSems0 c) (Z := fun _ => iprop(emp))
    (hX := start_intro m ρ) (hin := first_intro m) (hout := last_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Final.lean ====
/-
# The arrays after the run

The result array holds `resOf`, and every argument holds what it held; the operands as staged are the arguments
themselves, each window being its whole array.
-/
module

public import proofs.«01_k».proof.Proof.Run
public import Idealize.ShloMosaic.Lib.Pipeline.Value
public import Idealize.ShloMosaic.Lib.VecWindow

@[expose] public section

noncomputable section

namespace Cert.Mlp

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- A rectangle of a whole array's own sizes puts every index at itself. -/
theorem emb_full (b : Ref sig .tc) (off : Fin b.ty.shape.rank → Nat) (inb : ∀ a, off a + b.ty.shape.size a ≤ b.ty.shape.size a)
    (i : b.ty.Idx) : ((View.whole b).slice (Rect.unit off b.ty.shape.size inb)).emb i = i := Rect.emb_unit_full inb i

/-- So it reads the array. -/
theorem read_full (b : Ref sig .tc) (off : Fin b.ty.shape.rank → Nat) (inb : ∀ a, off a + b.ty.shape.size a ≤ b.ty.shape.size a)
    (X : b.ty.Contents (Elt F)) :
    ((View.whole b).slice (Rect.unit off b.ty.shape.size inb)).read (Elt F) X = X := by
  funext i
  rw [View.read_apply]
  exact congrArg X (emb_full b off inb i)

theorem xOf_eq (c : Dev nD) : xOf m c = m ((c : Thread nD τ).loc main_arg0) := read_full main_arg0 _ _ _
theorem win0_eq (c : Dev nD) : winOf m 0 c = m ((c : Thread nD τ).loc main_arg1) := read_full main_arg1 _ _ _
theorem win1_eq (c : Dev nD) : winOf m 1 c = m ((c : Thread nD τ).loc main_arg2) := read_full main_arg2 _ _ _
theorem win2_eq (c : Dev nD) : winOf m 2 c = m ((c : Thread nD τ).loc main_arg3) := read_full main_arg3 _ _ _
theorem wout0_eq (c : Dev nD) : woutOf m 0 c = m ((c : Thread nD τ).loc main_arg4) := read_full main_arg4 _ _ _
theorem wout1_eq (c : Dev nD) : woutOf m 1 c = m ((c : Thread nD τ).loc main_arg5) := read_full main_arg5 _ _ _
theorem wout2_eq (c : Dev nD) : woutOf m 2 c = m ((c : Thread nD τ).loc main_arg6) := read_full main_arg6 _ _ _

/-- What the flush writes of the result, as the block of an array: the whole of it. -/
theorem flushed_res (c : Dev nD) (t : Fin cfg0.N) :
    (dats m 0 c).flushed (7 : Fin 8) t = ((cfg0.win (7 : Fin 8)).blk t).view.read (Elt F) (resOf m c) := by
  rw [show t = t0_0 from fin_N0 t]
  exact (read_full main_v1 _ _ (resOf m c)).symm

theorem covered (i : S128x128.Idx) :
    ∃ t : Fin cfg0.N, (cfg0.win (7 : Fin 8)).flush t = true ∧ i ∈ ((cfg0.win (7 : Fin 8)).blk t).view.set := by
  refine ⟨t0_0, flush0_7 _, ?_⟩
  have h := ((cfg0.win (7 : Fin 8)).blk t0_0).view.emb_mem_set i
  exact (emb_full main_v1 _ _ i) ▸ h

theorem final_res (c : Dev nD) : finalA m c (7 : Fin 8) = resOf m c :=
  (dats m 0 c).arrAt_eq_of_cover (7 : Fin 8) (resOf m c) (fun t _ => flushed_res m c t) covered

theorem final_in (c : Dev nD) (w : Fin cfg0.W) (h : (cfg0.win w).isOut = false) :
    finalA m c w = m ((cfg0.win w).arr.view.loc (c : Thread nD τ)) := (dats m 0 c).arrAt_in w h _

/-- The run, with the result and the arguments by name. -/
theorem run_final : θ_run defs (onTc (τ := τ) (main (F := F))) ⟨m, fun _ => 0, ρ⟩
    (fun r => (∀ c : Dev nD,
        r.2.mem ((c : Thread nD τ).loc main_v1) = resOf m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0) :=
  (θ_run defs _ _).mono (fun r h => ⟨fun c =>
      have a : ∀ w : Fin cfg0.W, (cfg0.win w).isOut = false →
          r.2.mem ((cfg0.win w).arr.view.loc (c : Thread nD τ)) = m ((cfg0.win w).arr.view.loc (c : Thread nD τ)) :=
        fun w hw => (h.1 c w).trans (final_in m c w hw)
      ⟨(h.1 c (7 : Fin 8)).trans (final_res m c), a (0 : Fin 8) rfl, a (1 : Fin 8) rfl, a (3 : Fin 8) rfl, a (5 : Fin 8) rfl,
        a (2 : Fin 8) rfl, a (4 : Fin 8) rfl, a (6 : Fin 8) rfl⟩, h.2⟩) (run_all m ρ)

/-- The run, without the result. -/
theorem run_frame : θ_run defs (onTc (τ := τ) (main (F := F))) ⟨m, fun _ => 0, ρ⟩
    (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0) :=
  (θ_run defs _ _).mono (fun _ h => ⟨fun c => (h.1 c).2, h.2⟩) (run_final m ρ)

end Cert.Mlp

end
-- ==== Proof.Equation.lean ====
/-
# The equation

Over the extended reals the rounding casts are the identity and sums may be regrouped. A layer takes the activations
to `relu (X · Win) · Wout`. A device holds one half of the columns of `X`, one block of `Win` and one block of `Wout`:
its hidden block is a contraction over one half of the inner axis, and its `y` peer's is the contraction over the
other half, so their sum is a block of `X · Win`; its output block and its `x` peer's likewise make a block of the
layer's result.
-/
module

public import proofs.«01_k».proof.Proof.Values
public import proofs.«01_k».proof.Proof.Gen.ReferenceIdeal
public import Idealize.ShloMosaic.Lib.MatmulPlain
public import Idealize.ShloMosaic.Lib.StackMember
public import Idealize.ShloMosaic.Lib.Pipeline.Value

@[expose] public section

noncomputable section

namespace Cert.Mlp

open Cert.KernelIdeal Cert.KernelIdeal.Gen

open Idealize.ShloMosaic
open Idealize.ShloMosaic.TcCoe
open Idealize.SL Idealize.SL.Sem
open ValueIdx

/-! ## Positions on the mesh -/

/-- A device's coordinates: the one its `x` peer differs in, and the one its `y` peer differs in. -/
def mx (c : Dev nD) : Fin 2 := ⟨c.val / 2, by have : c.val < 4 := c.isLt; omega⟩
def my (c : Dev nD) : Fin 2 := ⟨c.val % 2, by omega⟩

theorem mx_yP : ∀ c : Dev nD, mx (yP c) = mx c := by decide
theorem my_yP : ∀ c : Dev nD, my (yP c) ≠ my c := by decide
theorem mx_xP : ∀ c : Dev nD, mx (xP c) ≠ mx c := by decide
theorem my_xP : ∀ c : Dev nD, my (xP c) = my c := by decide

theorem idx_eta {a b : ℕ} (i : (⟨2, ![a, b]⟩ : Shape).Idx) : i = ix2 (i 0) (i 1) := funext fun x => match x with
  | ⟨0, _⟩ => rfl
  | ⟨1, _⟩ => rfl

/-- Position `k` of half `b` of an axis twice as long. -/
def at' {n N : ℕ} (h : N = 2 * n) (b : Fin 2) (k : Fin n) : Fin N := ⟨b.val * n + k.val, by
  have hk := k.isLt
  rcases b with ⟨_ | _ | b, hb⟩
  · simp; omega
  · simp; omega
  · omega⟩

/-- A sum over an axis is the sum over either half plus the sum over the other. -/
theorem sum_halves {n N : ℕ} (h : N = 2 * n) {b b' : Fin 2} (hb : b' ≠ b) (f : Fin N → EReal) :
    ∑ k : Fin N, f k = ∑ k : Fin n, f (at' h b k) + ∑ k : Fin n, f (at' h b' k) := by
  have two : ∑ k : Fin N, f k = ∑ k : Fin n, f (at' h 0 k) + ∑ k : Fin n, f (at' h 1 k) := by
    have e : n + n = N := by omega
    rw [← Equiv.sum_comp (finCongr e), Fin.sum_univ_add]
    congr 1
    · exact Finset.sum_congr rfl fun k _ => congrArg f (Fin.ext (by simp [at']))
    · exact Finset.sum_congr rfl fun k _ => congrArg f (Fin.ext (by simp [at', Nat.add_comm]))
  have hh : (b = 0 ∧ b' = 1) ∨ (b = 1 ∧ b' = 0) := by revert b b'; decide
  rcases hh with ⟨rfl, rfl⟩ | ⟨rfl, rfl⟩
  · exact two
  · rw [two]; exact add_comm _ _

/-! ## A layer, undistributed -/

abbrev Acts := (⟨2, ![128, 256]⟩ : Shape).Idx → EReal
abbrev WIn := (⟨2, ![256, 512]⟩ : Shape).Idx → EReal
abbrev WOut := (⟨2, ![512, 256]⟩ : Shape).Idx → EReal

/-- The zero the program compares with. -/
abbrev zero : EReal := (FloatOps.ofBits (F := Ideal) .bf16 0x0000#16 : Ideal .bf16)

/-- The hidden value at a row and a hidden column. -/
def hidden (X : Acts) (Wi : WIn) (r : Fin 128) (q : Fin 512) : EReal := ∑ p : Fin 256, X (ix2 r p) * Wi (ix2 p q)
/-- The layer's result at a row and a column. -/
def layer (X : Acts) (Wi : WIn) (Wo : WOut) (r : Fin 128) (j : Fin 256) : EReal :=
  ∑ q : Fin 512, max (hidden X Wi r q) zero * Wo (ix2 q j)

/-! ## The operands' blocks -/

abbrev n128 : 256 = 2 * 128 := rfl
abbrev n256 : 512 = 2 * 256 := rfl
abbrev n64 : 128 = 2 * 64 := rfl

/-- `w` holds, on every device, its block of the input weight; of the output weight. -/
def CutIn (Wi : WIn) (w : Dev nD → FVec Ideal S128x256 .bf16) : Prop :=
  ∀ c (k : Fin 128) (q : Fin 256), w c (ix2 k q) = Wi (ix2 (at' n128 (my c) k) (at' n256 (mx c) q))
def CutOut (Wo : WOut) (w : Dev nD → FVec Ideal S256x128 .bf16) : Prop :=
  ∀ c (q : Fin 256) (j : Fin 128), w c (ix2 q j) = Wo (ix2 (at' n256 (mx c) q) (at' n128 (my c) j))

/-- `a` holds, on every device, the rows of half `h` of its columns of the activations. -/
def CutActs (X : Acts) (h : Fin 2) (a : Dev nD → FVec Ideal S64x128 .bf16) : Prop :=
  ∀ c (i : Fin 64) (k : Fin 128), a c (ix2 i k) = X (ix2 (at' n64 h i) (at' n128 (my c) k))

/-! ## The payloads at an index -/

/-- The product of a half's rows of the activations with a block of the input weight. -/
theorem pay1_apply (x : FVec Ideal S64x128 .bf16) (w : FVec Ideal S128x256 .bf16) (i : Fin 64) (q : Fin 256) :
    k0_pay1 x w (ix2 i q) = ∑ k : Fin 128, x (ix2 i k) * w (ix2 k q) := by
  unfold k0_pay1
  simp only [shapeCast_self]
  refine (Ideal.matmul_plain_apply none x w (constant S64x256 .f32 0x00000000#32) i q).trans ?_
  rw [show (constant S64x256 .f32 0x00000000#32 : FVec Ideal S64x256 .f32) (ix2 i q) = 0 from Ideal.ofBits_zero_f32, zero_add]

theorem hidStep_apply (mine theirs : FVec Ideal S64x128 .bf16) (w : FVec Ideal S128x256 .bf16) (i : Fin 64) (q : Fin 256) :
    hidStep mine theirs w (ix2 i q) = ∑ k : Fin 128, (mine (ix2 i k) + theirs (ix2 i k)) * w (ix2 k q) := by
  unfold hidStep packX k0_pay11
  simp only [shapeCast_self, shapeCast_shapeCast]
  exact (Ideal.matmul_plain_apply none _ w (constant S64x256 .f32 0x00000000#32) i q).trans (by
    rw [show (constant S64x256 .f32 0x00000000#32 : FVec Ideal S64x256 .f32) (ix2 i q) = 0 from Ideal.ofBits_zero_f32, zero_add]
    rfl)

theorem outStep_apply (mine theirs : FVec Ideal S64x256 .bf16) (w : FVec Ideal S256x128 .bf16) (i : Fin 64) (j : Fin 128) :
    outStep mine theirs w (ix2 i j) = ∑ q : Fin 256, max (mine (ix2 i q) + theirs (ix2 i q)) zero * w (ix2 q j) := by
  unfold outStep packH k0_pay5
  simp only [shapeCast_self, shapeCast_shapeCast]
  exact (Ideal.matmul_plain_apply none _ w (constant S64x128 .f32 0x00000000#32) i j).trans (by
    rw [show (constant S64x128 .f32 0x00000000#32 : FVec Ideal S64x128 .f32) (ix2 i j) = 0 from Ideal.ofBits_zero_f32, zero_add]
    rfl)

theorem pay27_apply (mine theirs : FVec Ideal S64x128 .bf16) (i : Fin 64) (j : Fin 128) :
    k0_pay27 mine (packX theirs) (ix2 i j) = mine (ix2 i j) + theirs (ix2 i j) := by
  unfold packX k0_pay27
  simp only [shapeCast_shapeCast]
  rfl

/-! ## A layer, distributed -/

/-- `a` holds, on every device, its half of the contraction that makes a block of the hidden values. -/
def PartHidden (X : Acts) (Wi : WIn) (h : Fin 2) (a : Dev nD → FVec Ideal S64x256 .bf16) : Prop :=
  ∀ c (i : Fin 64) (q : Fin 256), a c (ix2 i q)
    = ∑ k : Fin 128, X (ix2 (at' n64 h i) (at' n128 (my c) k)) * Wi (ix2 (at' n128 (my c) k) (at' n256 (mx c) q))

/-- The sum of the two `y` peers' halves is a block of the hidden values. -/
theorem hidden_of_parts {X : Acts} {Wi : WIn} {h : Fin 2} {a : Dev nD → FVec Ideal S64x256 .bf16} (ha : PartHidden X Wi h a)
    (c : Dev nD) (i : Fin 64) (q : Fin 256) :
    a c (ix2 i q) + a (yP c) (ix2 i q) = hidden X Wi (at' n64 h i) (at' n256 (mx c) q) := by
  rw [ha c, ha (yP c), mx_yP]
  exact (sum_halves n128 (my_yP c) fun p => X (ix2 (at' n64 h i) p) * Wi (ix2 p (at' n256 (mx c) q))).symm

/-- A device's own output block and its `x` peer's sum to a block of the layer's result. -/
theorem layer_of_parts {X : Acts} {Wi : WIn} {Wo : WOut} {h : Fin 2} {a : Dev nD → FVec Ideal S64x256 .bf16}
    {w : Dev nD → FVec Ideal S256x128 .bf16} (ha : PartHidden X Wi h a) (hw : CutOut Wo w) {o : Dev nD → FVec Ideal S64x128 .bf16}
    (ho : ∀ c, o c = outStep (a c) (a (yP c)) (w c)) (c : Dev nD) (i : Fin 64) (j : Fin 128) :
    o c (ix2 i j) + o (xP c) (ix2 i j) = layer X Wi Wo (at' n64 h i) (at' n128 (my c) j) := by
  have one (d : Dev nD) : o d (ix2 i j) = ∑ q : Fin 256,
      max (hidden X Wi (at' n64 h i) (at' n256 (mx d) q)) zero * Wo (ix2 (at' n256 (mx d) q) (at' n128 (my d) j)) := by
    rw [ho, outStep_apply]
    exact Finset.sum_congr rfl fun q _ => by rw [hidden_of_parts ha, hw]
  rw [one c, one (xP c), my_xP]
  exact (sum_halves n256 (mx_xP c) fun q => max (hidden X Wi (at' n64 h i) q) zero * Wo (ix2 q (at' n128 (my c) j))).symm

/-- The first layer's hidden blocks, from the activations as they lie on the devices. -/
theorem part_first {X : Acts} {Wi : WIn} {h : Fin 2} {x : Dev nD → FVec Ideal S64x128 .bf16} {w : Dev nD → FVec Ideal S128x256 .bf16}
    (hx : CutActs X h x) (hw : CutIn Wi w) {a : Dev nD → FVec Ideal S64x256 .bf16} (ha : ∀ c, a c = k0_pay1 (x c) (w c)) :
    PartHidden X Wi h a := fun c i q => by
  rw [ha, pay1_apply]
  exact Finset.sum_congr rfl fun k _ => by rw [hx, hw]

/-- A later layer's hidden blocks, from output blocks that sum to the activations over `x` peers. -/
theorem part_next {X : Acts} {Wi : WIn} {h : Fin 2} {o : Dev nD → FVec Ideal S64x128 .bf16} {w : Dev nD → FVec Ideal S128x256 .bf16}
    (hx : ∀ c (i : Fin 64) (k : Fin 128), o c (ix2 i k) + o (xP c) (ix2 i k) = X (ix2 (at' n64 h i) (at' n128 (my c) k)))
    (hw : CutIn Wi w) {a : Dev nD → FVec Ideal S64x256 .bf16} (ha : ∀ c, a c = hidStep (o c) (o (xP c)) (w c)) :
    PartHidden X Wi h a := fun c i q => by
  rw [ha, hidStep_apply]
  exact Finset.sum_congr rfl fun k _ => by rw [hx, hw]

/-- A layer's result as an array. -/
def layerArr (X : Acts) (Wi : WIn) (Wo : WOut) : Acts := fun i => layer X Wi Wo (i 0) (i 1)

/-! ## The result -/

variable (m : (ℓ : Loc nD τ sig) → Buf (Elt Ideal) ℓ)

/-- The three layers over one another. -/
def mlp (X : Acts) (Wi : Fin 3 → WIn) (Wo : Fin 3 → WOut) : Acts :=
  layerArr (layerArr (layerArr X (Wi 0) (Wo 0)) (Wi 1) (Wo 1)) (Wi 2) (Wo 2)

/-- The rows of a half, as loaded. -/
theorem xHalf_apply (h : Fin 2) (c : Dev nD) (i : Fin 64) (k : Fin 128) :
    xHalf m h c (ix2 i k) = xOf m c (ix2 (at' n64 h i) k) := by
  unfold xHalf
  refine congrArg (xOf m c) (funext fun a => Fin.ext ?_)
  match a with
  | ⟨0, _⟩ => show 64 * h.val + 1 * i.val = h.val * 64 + i.val; omega
  | ⟨1, _⟩ => show 0 + 1 * k.val = k.val; omega

theorem putRows_own (h : Fin 2) (v : FVec Ideal S64x128 .bf16) (g) (i : Fin 64) (j : Fin 128) :
    putRows h v g (ix2 (at' n64 h i) j) = v (ix2 i j) := by
  have e : (ix2 (at' n64 h i) j : S128x128.Idx) = (oM.access (rR h) : View sig .tc _ _ _).emb (ix2 i j) := funext fun a => Fin.ext (by
    match a with
    | ⟨0, _⟩ => show h.val * 64 + i.val = 64 * h.val + 1 * i.val; omega
    | ⟨1, _⟩ => show j.val = 0 + 1 * j.val; omega)
  unfold putRows
  rw [e]
  exact View.write_emb_of_mem _ _ (Finset.mem_univ _)

theorem putRows_other (v : FVec Ideal S64x128 .bf16) (g) (i : Fin 64) (j : Fin 128) :
    putRows 1 v g (ix2 (at' n64 0 i) j) = g (ix2 (at' n64 0 i) j) := by
  unfold putRows
  refine View.write_of_not_mem _ _ _ fun hm => ?_
  rw [show (oM.access (rR 1) : View sig .tc _ _ _).setOn Finset.univ = (rR 1).set from
    (View.setOn_univ _).trans (View.set_slice_whole cc0_stg7_0 (rR 1))] at hm
  have h0 : 64 * (1 : Fin 2).val ≤ (0 : Fin 2).val * 64 + i.val := ((Rect.mem_set_unit.mp hm) 0).1
  have := i.isLt
  simp at h0; omega

theorem resOf_apply (h : Fin 2) (c : Dev nD) (i : Fin 64) (j : Fin 128) :
    resOf m c (ix2 (at' n64 h i) j) = resHalf m h c (ix2 i j) := by
  unfold resOf
  have hh : h = 0 ∨ h = 1 := by revert h; decide
  rcases hh with rfl | rfl
  · rw [putRows_other, putRows_own]
  · rw [putRows_own]

/-- Half `h` of the result block is its part of the three layers' result. -/
theorem resHalf_eq {X : Acts} {Wi : Fin 3 → WIn} {Wo : Fin 3 → WOut} (h : Fin 2) (hx : CutActs X h (xHalf m h))
    (hi : ∀ l, CutIn (Wi l) (winOf m l)) (ho : ∀ l, CutOut (Wo l) (woutOf m l)) (c : Dev nD) (i : Fin 64) (j : Fin 128) :
    resHalf m h c (ix2 i j) = mlp X Wi Wo (ix2 (at' n64 h i) (at' n128 (my c) j)) := by
  have p0 := part_first hx (hi 0) (a := hid0 m h) fun _ => rfl
  have p1 := part_next (X := layerArr X (Wi 0) (Wo 0)) (layer_of_parts p0 (ho 0) (o := out0 m h) fun _ => rfl) (hi 1) (a := hid1 m h) fun _ => rfl
  have p2 := part_next (X := layerArr (layerArr X (Wi 0) (Wo 0)) (Wi 1) (Wo 1)) (layer_of_parts p1 (ho 1) (o := out1 m h) fun _ => rfl) (hi 2)
    (a := hid2 m h) fun _ => rfl
  unfold resHalf
  rw [pay27_apply]
  exact layer_of_parts p2 (ho 2) (o := out2 m h) (fun _ => rfl) c i j

/-- The result block of a device is its half of the columns of the three layers' result. -/
theorem resOf_eq {X : Acts} {Wi : Fin 3 → WIn} {Wo : Fin 3 → WOut}
    (hx : ∀ c (r k : Fin 128), xOf m c (ix2 r k) = X (ix2 r (at' n128 (my c) k)))
    (hi : ∀ l, CutIn (Wi l) (winOf m l)) (ho : ∀ l, CutOut (Wo l) (woutOf m l)) (c : Dev nD) (r j : Fin 128) :
    resOf m c (ix2 r j) = mlp X Wi Wo (ix2 r (at' n128 (my c) j)) := by
  obtain ⟨h, i, rfl⟩ : ∃ (h : Fin 2) (i : Fin 64), r = at' n64 h i :=
    ⟨⟨r.val / 64, by have := r.isLt; omega⟩, ⟨r.val % 64, by omega⟩, Fin.ext (by show r.val = r.val / 64 * 64 + r.val % 64; omega)⟩
  rw [resOf_apply, resHalf_eq m h (fun d i k => (xHalf_apply m h d i k).trans (hx d _ _)) hi ho]

/-! ## The blocks the devices hold -/

theorem acts_block (v : Acts) (c : Dev nD) (r k : Fin 128) :
    (Layout.blockN ⟨2, ![128, 128]⟩ ⟨2, ![128, 256]⟩ (Layout.meshBlock [2, 2] ![[], [1]] c) v : _ → EReal) (ix2 r k) = v (ix2 r (at' n128 (my c) k)) := by
  rw [Layout.blockN_apply]
  refine congrArg v (funext fun a => Fin.ext ?_)
  match a with
  | ⟨0, _⟩ => show 0 * 128 + r.val = r.val; omega
  | ⟨1, _⟩ => show (c.val / 1 % 2 * 1 + 0) * 128 + k.val = c.val % 2 * 128 + k.val; omega

theorem win_block (v : WIn) (c : Dev nD) (k : Fin 128) (q : Fin 256) :
    (Layout.blockN ⟨2, ![128, 256]⟩ ⟨2, ![256, 512]⟩ (Layout.meshBlock [2, 2] ![[1], [0]] c) v : _ → EReal) (ix2 k q)
      = v (ix2 (at' n128 (my c) k) (at' n256 (mx c) q)) := by
  have hc : c.val < 4 := c.isLt
  rw [Layout.blockN_apply]
  refine congrArg v (funext fun a => Fin.ext ?_)
  match a with
  | ⟨0, _⟩ => show (c.val / 1 % 2 * 1 + 0) * 128 + k.val = c.val % 2 * 128 + k.val; omega
  | ⟨1, _⟩ => show (c.val / 2 % 2 * 1 + 0) * 256 + q.val = c.val / 2 * 256 + q.val; omega

theorem wout_block (v : WOut) (c : Dev nD) (q : Fin 256) (j : Fin 128) :
    (Layout.blockN ⟨2, ![256, 128]⟩ ⟨2, ![512, 256]⟩ (Layout.meshBlock [2, 2] ![[0], [1]] c) v : _ → EReal) (ix2 q j)
      = v (ix2 (at' n256 (mx c) q) (at' n128 (my c) j)) := by
  have hc : c.val < 4 := c.isLt
  rw [Layout.blockN_apply]
  refine congrArg v (funext fun a => Fin.ext ?_)
  match a with
  | ⟨0, _⟩ => show (c.val / 2 % 2 * 1 + 0) * 256 + q.val = c.val / 2 * 256 + q.val; omega
  | ⟨1, _⟩ => show (c.val / 1 % 2 * 1 + 0) * 128 + j.val = c.val % 2 * 128 + j.val; omega

/-! ## The reference -/

/-- One layer of the reference. -/
theorem ref_layer (hb : FTy.bits .bf16 < FTy.bits .f32)
    (hz : Cert.ReferenceIdeal.S_.BroadcastsInDim Cert.ReferenceIdeal.S128x512 (![] : Fin 0 → Fin Cert.ReferenceIdeal.S128x512.rank))
    (X : Acts) (Wi : WIn) (Wo : WOut) :
    truncf (F := Ideal) .bf16 (Host.dotGeneral (φ₁ := .bf16) (φ₂ := .bf16) Cert.ReferenceIdeal.dot_S128x512_S512x256_S128x256_1_0_0_1_n_n none
      (maximumf (truncf .bf16 (Host.dotGeneral (φ₁ := .bf16) (φ₂ := .bf16) Cert.ReferenceIdeal.dot_S128x256_S256x512_S128x512_1_0_0_1_n_n none X Wi) hb)
        (broadcastInDim Cert.ReferenceIdeal.S128x512 ![] hz (constant Cert.ReferenceIdeal.S_ .bf16 0x0000#16))) Wo)
      hb = layerArr X Wi Wo := by
  funext i
  obtain ⟨r, j, rfl⟩ : ∃ (r : Fin 128) (j : Fin 256), i = ix2 r j := ⟨i 0, i 1, idx_eta i⟩
  show Host.dotGeneral (F := Ideal) (φ₁ := .bf16) (φ₂ := .bf16) (DotDims.plain 128 512 256) none _ Wo (ix2 r j)
    = ∑ q : Fin 512, max (hidden X Wi r q) zero * Wo (ix2 q j)
  rw [StackMember.dotGeneral_plain_apply]
  refine Finset.sum_congr rfl fun q _ => congrArg (fun v => max v zero * Wo (ix2 q j)) ?_
  exact StackMember.dotGeneral_plain_apply (φ₁ := .bf16) (φ₂ := .bf16) none X Wi r q

end Cert.Mlp

end
-- ==== Proof.lean ====
/-
# The certificate

The kernel's run (`run_final`) gives the two kernel frames; the reference's run gives its own; the equation
(`resOf_eq`, `ref_layer`) gives the algebraic claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem ValueIdx Cert.Mlp

/-! ## The frames

The kernel as it runs and the ideal kernel have one text, so the run stated of the ideal kernel for any float values is
the kernel's too. -/

theorem bodies_eq {F : FTy → Type} [FloatOps F] : Cert.Kernel.defs₀ (F := F) = Cert.KernelIdeal.defs₀ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs := by
  unfold Cert.Kernel.defs Cert.KernelIdeal.defs
  rw [bodies_eq]
  rfl

theorem frame_kernel : Cert.quiescent_Kernel := fun m ρ _ => by
  rw [defs_eq]
  exact run_frame (F := Bits) m ρ

theorem frame_ideal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- The ideal kernel leaves every device its block of the reference's result. -/
theorem algebraic : Cert.algebraic_KernelIdeal_ReferenceIdeal := by
  intro m ρ m' ρ' _ hargs
  let A (b : Ref Cert.ReferenceIdeal.sig .tc) := m' (((0 : Dev Cert.ReferenceIdeal.nD).tc : Thread Cert.ReferenceIdeal.nD Cert.ReferenceIdeal.τ).loc b)
  let X : Acts := A Cert.ReferenceIdeal.main_arg0
  let Wi : Fin 3 → WIn := fun | 0 => A Cert.ReferenceIdeal.main_arg1 | 1 => A Cert.ReferenceIdeal.main_arg2 | 2 => A Cert.ReferenceIdeal.main_arg3
  let Wo : Fin 3 → WOut := fun | 0 => A Cert.ReferenceIdeal.main_arg4 | 1 => A Cert.ReferenceIdeal.main_arg5 | 2 => A Cert.ReferenceIdeal.main_arg6
  have hx (c : Dev Cert.KernelIdeal.nD) (r k : Fin 128) : xOf m c (ix2 r k) = X (ix2 r (at' n128 (my c) k)) := by
    rw [xOf_eq, (hargs c).1]; exact acts_block X c r k
  have hi (l : Fin 3) : CutIn (Wi l) (winOf m l) := fun c k q => by
    obtain ⟨-, h1, h2, h3, -⟩ := hargs c
    match l with
    | 0 => rw [win0_eq, h1]; exact win_block (Wi 0) c k q
    | 1 => rw [win1_eq, h2]; exact win_block (Wi 1) c k q
    | 2 => rw [win2_eq, h3]; exact win_block (Wi 2) c k q
  have ho (l : Fin 3) : CutOut (Wo l) (woutOf m l) := fun c q j => by
    obtain ⟨-, -, -, -, h4, h5, h6⟩ := hargs c
    match l with
    | 0 => rw [wout0_eq, h4]; exact wout_block (Wo 0) c q j
    | 1 => rw [wout1_eq, h5]; exact wout_block (Wo 1) c q j
    | 2 => rw [wout2_eq, h6]; exact wout_block (Wo 2) c q j
  refine ⟨mlp X Wi Wo, ?_, ?_⟩
  · refine (θ_run Cert.KernelIdeal.defs _ _).mono (fun r h c => ⟨(h.1 c).1.trans (funext fun i => ?_), (h.1 c).2⟩) (run_final (F := Ideal) m ρ)
    rw [idx_eta (a := 128) (b := 128) i]
    exact (resOf_eq m hx hi ho c (i 0) (i 1)).trans (acts_block (mlp X Wi Wo) c (i 0) (i 1)).symm
  · refine (θ_run Cert.ReferenceIdeal.defs _ _).mono (fun r h => ⟨(h 0).1.trans ?_, (h 0).2⟩) (Cert.ReferenceIdeal.Value.run (F := Ideal) m' ρ')
    refine (ref_layer _ _ _ (Wi 2) (Wo 2)).trans (congrArg (fun Y => layerArr Y (Wi 2) (Wo 2)) ?_)
    refine (ref_layer _ _ _ (Wi 1) (Wo 1)).trans (congrArg (fun Y => layerArr Y (Wi 1) (Wo 1)) ?_)
    exact ref_layer _ _ X (Wi 0) (Wo 0)

theorem claim : Cert.Claim := ⟨Cert.Kernel.Gen.facts, Cert.KernelIdeal.Gen.facts, Cert.ReferenceIdeal.Gen.facts,
  frame_kernel, frame_ideal, frame_reference, trivial, algebraic⟩

end Cert.Proof

end
